-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_parent_map [hPre_parent_map : Cert.Pre_parent_map.Facts] (m : (ℓ : Loc Cert.KernelIdeal.nD Cert.KernelIdeal.τ Cert.KernelIdeal.sig) → Buf (Elt Ideal) ℓ) : Prop :=
  ∀ c : Dev Cert.KernelIdeal.nD,
    (Cert.Pre_parent_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parent_map [hPre_parent_map : Cert.Pre_parent_map.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parent_map.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_parent_map [hKernelIdeal : Cert.KernelIdeal.Facts] [hPre_parent_map : Cert.Pre_parent_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_parent_map m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_parent_map [hReferenceIdeal : Cert.ReferenceIdeal.Facts] [hPre_parent_map : Cert.Pre_parent_map.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parent_map m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_parent_map [hKernelIdeal : Cert.KernelIdeal.Facts] [hReferenceIdeal : Cert.ReferenceIdeal.Facts] [hPre_parent_map : Cert.Pre_parent_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_parent_map m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_parent_map : Cert.Pre_parent_map.Facts),
    quiescent_Kernel (hKernel := hKernel)
    ∧ quiescent_KernelIdeal (hKernelIdeal := hKernelIdeal)
    ∧ quiescent_KernelIdeal_pre_parent_map (hKernelIdeal := hKernelIdeal) (hPre_parent_map := hPre_parent_map)
    ∧ quiescent_ReferenceIdeal (hReferenceIdeal := hReferenceIdeal)
    ∧ quiescent_ReferenceIdeal_pre_parent_map (hReferenceIdeal := hReferenceIdeal) (hPre_parent_map := hPre_parent_map)
    ∧ preserves_Kernel_KernelIdeal
    ∧ algebraic_KernelIdeal_ReferenceIdeal_pre_parent_map (hKernelIdeal := hKernelIdeal) (hReferenceIdeal := hReferenceIdeal) (hPre_parent_map := hPre_parent_map)
-- ==== Pre_parent_map.lean ====
abbrev S64x512x162 : Shape := ⟨3, ![64, 512, 162]⟩
abbrev S642 : Shape := ⟨1, ![642]⟩
abbrev S_ : Shape := ⟨0, ![]⟩

class Facts : Prop where
  bcast_S_S642 : S_.BroadcastsInDim S642 (![] : Fin 0 → Fin S642.rank)
  reducesTo_S642_S_d0 : S642.ReducesTo [0] S_
  h_S_ : 0 < S_.numel

variable [Facts]

def fn_where {F : FTy → Type} [FloatOps F] (arg0 : IVec S642 1) (arg1 : IVec S642 32) (arg2 : IVec S642 32) : IVec S642 32 :=
  let v0 : IVec S642 32 := select arg0 arg1 arg2
  v0

def fn_floor_divide {F : FTy → Type} [FloatOps F] (arg0 : IVec S642 32) (arg1 : IVec S_ 32) : IVec S642 32 :=
  let v0 : IVec S_ 32 := id arg1
  let v1 : IVec S642 32 := broadcastInDim S642 ![] bcast_S_S642 v0
  let v2 : IVec S642 32 := Host.divsi arg0 v1
  let v3 : IVec S642 32 := signi arg0
  let v4 : IVec S_ 32 := signi v0
  let v5 : IVec S642 32 := broadcastInDim S642 ![] bcast_S_S642 v4
  let v6 : IVec S642 1 := cmpi .ne v3 v5
  let v7 : IVec S642 32 := broadcastInDim S642 ![] bcast_S_S642 v0
  let v8 : IVec S642 32 := Host.remsi arg0 v7
  let c : IVec S_ 32 := constantI S_ 32 0#32
  let v9 : IVec S642 32 := broadcastInDim S642 ![] bcast_S_S642 c
  let v10 : IVec S642 1 := cmpi .ne v8 v9
  let v11 : IVec S642 1 := andi v6 v10
  let c_0 : IVec S_ 32 := constantI S_ 32 1#32
  let v12 : IVec S642 32 := broadcastInDim S642 ![] bcast_S_S642 c_0
  let v13 : IVec S642 32 := subi v2 v12
  let v14 : IVec S642 32 := fn_where (F := F) v11 v13 v2
  v14

def fn {F : FTy → Type} [FloatOps F] (main_arg0 : FVec F S64x512x162 .f32) (main_arg1 : IVec S642 32) : IVec S_ 1 :=
  let main_v0 : IVec S642 32 := iotaInDim S642 32 0
  let main_c : IVec S_ 32 := constantI S_ 32 4#32
  let main_v1 : IVec S642 32 := fn_floor_divide (F := F) main_v0 main_c
  let main_v2 : IVec S642 1 := cmpi .eq main_arg1 main_v1
  let main_c_0 : IVec S_ 1 := constantI S_ 1 1#1
  let main_v3 : IVec S_ 1 := (fun x v => Host.reduce IntOp.andi x v reducesTo_S642_S_d0 h_S_) main_v2 main_c_0
  main_v3
-- ==== Kernel.lean ====
abbrev S64x512x162 : Shape := ⟨3, ![64, 512, 162]⟩
abbrev S642 : Shape := ⟨1, ![642]⟩
abbrev S162x64x512 : Shape := ⟨3, ![162, 64, 512]⟩
abbrev S642x64x512 : Shape := ⟨3, ![642, 64, 512]⟩
abbrev S64x512 : Shape := ⟨2, ![64, 512]⟩
abbrev S_ : Shape := ⟨0, ![]⟩
abbrev S1x64x512 : Shape := ⟨3, ![1, 64, 512]⟩
abbrev S64x512x642 : Shape := ⟨3, ![64, 512, 642]⟩

abbrev nBuf : Table → Nat
  | .hbm => 5
  | .shared => 4
  | .local .scVector .vmem => 3
  | _ => 0

abbrev bufTy : (tb : Table) → Fin (nBuf tb) → BufTy
  | .hbm, ⟨0, _⟩ => ⟨S64x512x162, .f32⟩
  | .hbm, ⟨1, _⟩ => ⟨S642, .i32⟩
  | .hbm, ⟨2, _⟩ => ⟨S162x64x512, .f32⟩
  | .hbm, ⟨3, _⟩ => ⟨S642x64x512, .f32⟩
  | .hbm, ⟨4, _⟩ => ⟨S64x512x642, .f32⟩
  | .shared, ⟨0, _⟩ => ⟨S64x512, .f32⟩
  | .shared, ⟨1, _⟩ => ⟨S64x512, .f32⟩
  | .shared, ⟨2, _⟩ => ⟨S64x512, .f32⟩
  | .shared, ⟨3, _⟩ => ⟨S64x512, .f32⟩
  | .local .scVector .vmem, ⟨0, _⟩ => ⟨S64x512, .f32⟩
  | .local .scVector .vmem, ⟨1, _⟩ => ⟨S64x512, .f32⟩
  | .local .scVector .vmem, ⟨2, _⟩ => ⟨S64x512, .f32⟩
  | _, _ => ⟨S64x512x162, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v0_scs : Ref sig .scScalar := ⟨.hbm, 2, rfl⟩
abbrev main_v1_scs : Ref sig .scScalar := ⟨.hbm, 3, rfl⟩
abbrev cc0_scratch9 : Ref sig .scScalar := ⟨.shared, 0, rfl⟩
abbrev cc0_scratch10 : Ref sig .scScalar := ⟨.shared, 1, rfl⟩
abbrev cc0_scratch11 : Ref sig .scScalar := ⟨.shared, 2, rfl⟩
abbrev cc0_scratch12 : Ref sig .scScalar := ⟨.shared, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_0 : BitVec 32 := 0#32
  let c0_i32_1 : BitVec 32 := 0#32
  ![v3.toNat, 0, 0]
def k0_off2 (i : grid0.Coords) (c0_i32_18 : BitVec 32) (c0_i32_20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v23 : BitVec 32 := Scalar.addi v2 c0_i32_18
  let c4_i32_19 : BitVec 32 := 4#32
  let v24 : BitVec 32 := Scalar.muli v23 c4_i32_19
  let v25 : BitVec 32 := Scalar.addi v24 c0_i32_20
  let c0_i32_21 : BitVec 32 := 0#32
  let c0_i32_22 : BitVec 32 := 0#32
  ![v25.toNat, 0, 0]
abbrev grid1 : Pipeline.Grid := ⟨1, ![2], ![false]⟩

def k1_off1 (i : grid1.Coords) (c0_i32 : BitVec 32) : Fin 3 → Nat :=
  let c128_i32 : BitVec 32 := 128#32
  let arg0 : BitVec 32 := BitVec.ofNat 32 (i 0).val
  let c16_i32 : BitVec 32 := 16#32
  let v0 : BitVec 32 := Scalar.muli arg0 c16_i32
  let v1 : BitVec 32 := Scalar.addi c128_i32 v0
  let v2 : BitVec 32 := Scalar.addi v1 c0_i32
  let c0_i32_0 : BitVec 32 := 0#32
  let c0_i32_1 : BitVec 32 := 0#32
  ![v2.toNat, 0, 0]
def k1_off2 (i : grid1.Coords) (c0_i32_11 : BitVec 32) (c0_i32_12 : BitVec 32) : Fin 3 → Nat :=
  let c128_i32 : BitVec 32 := 128#32
  let arg0 : BitVec 32 := BitVec.ofNat 32 (i 0).val
  let c16_i32 : BitVec 32 := 16#32
  let v0 : BitVec 32 := Scalar.muli arg0 c16_i32
  let v1 : BitVec 32 := Scalar.addi c128_i32 v0
  let v17 : BitVec 32 := Scalar.addi v1 c0_i32_11
  let c4_i32 : BitVec 32 := 4#32
  let v18 : BitVec 32 := Scalar.muli v17 c4_i32
  let v19 : BitVec 32 := Scalar.addi v18 c0_i32_12
  let c0_i32_13 : BitVec 32 := 0#32
  let c0_i32_14 : BitVec 32 := 0#32
  ![v19.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x512x162 : Shape := ⟨3, ![64, 512, 162]⟩
abbrev S642 : Shape := ⟨1, ![642]⟩
abbrev S_ : Shape := ⟨0, ![]⟩
abbrev S642x1 : Shape := ⟨2, ![642, 1]⟩
abbrev S1 : Shape := ⟨1, ![1]⟩
abbrev S1x1 : Shape := ⟨2, ![1, 1]⟩
abbrev S64x512x642 : Shape := ⟨3, ![64, 512, 642]⟩

abbrev nBuf : Space → Nat
  | .hbm => 25
  | .vmem => 0
  | .smem => 0
  | _ => 0

abbrev bufTy : (tb : Table) → Fin (tcTables nBuf tb) → BufTy
  | .hbm, ⟨0, _⟩ => ⟨S64x512x162, .f32⟩
  | .hbm, ⟨1, _⟩ => ⟨S642, .i32⟩
  | .hbm, ⟨2, _⟩ => ⟨S_, .i32⟩
  | .hbm, ⟨3, _⟩ => ⟨S642, .i32⟩
  | .hbm, ⟨4, _⟩ => ⟨S642, .i1⟩
  | .hbm, ⟨5, _⟩ => ⟨S_, .i32⟩
  | .hbm, ⟨6, _⟩ => ⟨S642, .i32⟩
  | .hbm, ⟨7, _⟩ => ⟨S642, .i32⟩
  | .hbm, ⟨8, _⟩ => ⟨S642, .i32⟩
  | .hbm, ⟨9, _⟩ => ⟨S642x1, .i32⟩
  | .hbm, ⟨10, _⟩ => ⟨S1, .i32⟩
  | .hbm, ⟨11, _⟩ => ⟨S_, .i32⟩
  | .hbm, ⟨12, _⟩ => ⟨S642x1, .i32⟩
  | .hbm, ⟨13, _⟩ => ⟨S642x1, .i1⟩
  | .hbm, ⟨14, _⟩ => ⟨S1x1, .i32⟩
  | .hbm, ⟨15, _⟩ => ⟨S642x1, .i32⟩
  | .hbm, ⟨16, _⟩ => ⟨S642x1, .i1⟩
  | .hbm, ⟨17, _⟩ => ⟨S642x1, .i1⟩
  | .hbm, ⟨18, _⟩ => ⟨S_, .i1⟩
  | .hbm, ⟨19, _⟩ => ⟨S642, .i1⟩
  | .hbm, ⟨20, _⟩ => ⟨S64x512x642, .f32⟩
  | .hbm, ⟨21, _⟩ => ⟨S64x512x642, .i1⟩
  | .hbm, ⟨22, _⟩ => ⟨S_, .f32⟩
  | .hbm, ⟨23, _⟩ => ⟨S64x512x642, .f32⟩
  | .hbm, ⟨24, _⟩ => ⟨S64x512x642, .f32⟩
  | _, _ => ⟨S64x512x162, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Copy.Steps.lean ====
module

public import proofs.«01_k».proof.Proof.Gen.KernelIdeal.Skeleton

@[expose] public section

/-! # The two bodies as sequences of row copies

Both bodies only start and await copies of one row at a time: a row of the transposed input into a
buffer, and that buffer into four rows of the result. This module names those steps once, for any
processor, and says that the printed bodies are the sequences of steps below. -/

noncomputable section

namespace Cert.Proof.Copy

open Cert.KernelIdeal Cert.KernelIdeal.Gen
open Idealize.ShloMosaic Idealize.SL.Sem

variable {F : FTy → Type} [FloatOps F]

/-- The row of the input array at the offsets `off`, as a two-dimensional view. -/
def inRow {κ : Kind} (X : Memref sig κ .hbm S162x64x512 .f32) (off : Fin 3 → Nat)
    (h : ∀ a, off a + S1x64x512.size a ≤ S162x64x512.size a) : Memref sig κ .hbm S64x512 .f32 :=
  (X.slice (Rect.unit (s := S162x64x512) off S1x64x512.size h) (fun _ => rfl)).squeeze S64x512 squeezes_S1x64x512_S64x512

/-- The row of the result array at the offsets `off`, as a two-dimensional view. -/
def outRow {κ : Kind} (O : Memref sig κ .hbm S642x64x512 .f32) (off : Fin 3 → Nat)
    (h : ∀ a, off a + S1x64x512.size a ≤ S642x64x512.size a) : Memref sig κ .hbm S64x512 .f32 :=
  (O.slice (Rect.unit (s := S642x64x512) off S1x64x512.size h) (fun _ => rfl)).squeeze S64x512 squeezes_S1x64x512_S64x512

section
variable {p : Proc τ} {sp : Space}

/-- Start the copy of an input row into the buffer `b`. -/
def startIn (X : Memref sig p.kind .hbm S162x64x512 .f32) (off : Fin 3 → Nat)
    (h : ∀ a, off a + S1x64x512.size a ≤ S162x64x512.size a)
    (b : Memref sig p.kind sp S64x512 .f32) (hb : b.IsWhole) (rs : DmaSems sig S_)
    (ht : (DmaTarget.here b : DmaTarget nD τ sig p sp S64x512 .f32).Typed .hbm (.dma rs.sem)) :
    Prog (TpuEff nD τ sig (Elt F) Λ₀ p) PUnit :=
  Prog.lift (.enqueueDma (inRow X off h) (.here b) (.dma rs.sem) ((View.wordExact_bits rfl).reshape _ _) hb.wordExact ht)

/-- Await the copy of an input row into the buffer `b`. -/
def waitIn (X : Memref sig p.kind .hbm S162x64x512 .f32) (off : Fin 3 → Nat)
    (h : ∀ a, off a + S1x64x512.size a ≤ S162x64x512.size a)
    (b : Memref sig p.kind sp S64x512 .f32) (hb : b.IsWhole) (rs : DmaSems sig S_) :
    Prog (TpuEff nD τ sig (Elt F) Λ₀ p) PUnit :=
  Prog.lift (.waitDma2 rs.sem (inRow X off h) b ((View.wordExact_bits rfl).reshape _ _) hb.wordExact)

/-- Start the copy of the buffer `b` into a row of the result. -/
def startOut (O : Memref sig p.kind .hbm S642x64x512 .f32) (off : Fin 3 → Nat)
    (h : ∀ a, off a + S1x64x512.size a ≤ S642x64x512.size a)
    (b : Memref sig p.kind sp S64x512 .f32) (hb : b.IsWhole) (ws : DmaSems sig S_)
    (ht : (DmaTarget.here (outRow O off h) : DmaTarget nD τ sig p .hbm S64x512 .f32).Typed sp (.dma ws.sem)) :
    Prog (TpuEff nD τ sig (Elt F) Λ₀ p) PUnit :=
  Prog.lift (.enqueueDma b (.here (outRow O off h)) (.dma ws.sem) hb.wordExact ((View.wordExact_bits rfl).reshape _ _) ht)

/-- Await one copy of the buffer `b` into a row of the result. -/
def waitOut (O : Memref sig p.kind .hbm S642x64x512 .f32)
    (b : Memref sig p.kind sp S64x512 .f32) (hb : b.IsWhole) (ws : DmaSems sig S_) :
    Prog (TpuEff nD τ sig (Elt F) Λ₀ p) PUnit :=
  Prog.lift (.waitDma2 ws.sem b (outRow O ![0, 0, 0] inb_S642x64x512_S1x64x512_0_0_0) hb.wordExact ((View.wordExact_bits rfl).reshape _ _))

/-- Await the four copies of the buffer `b`. -/
def drain4 (O : Memref sig p.kind .hbm S642x64x512 .f32)
    (b : Memref sig p.kind sp S64x512 .f32) (hb : b.IsWhole) (ws : DmaSems sig S_) :
    Prog (TpuEff nD τ sig (Elt F) Λ₀ p) PUnit := do
  waitOut O b hb ws
  waitOut O b hb ws
  waitOut O b hb ws
  waitOut O b hb ws

/-- Start the copies of the buffer `b` into the four rows of the result at the offsets `off`. -/
def outs4 (O : Memref sig p.kind .hbm S642x64x512 .f32) (off : Fin 4 → Fin 3 → Nat)
    (h : ∀ t a, off t a + S1x64x512.size a ≤ S642x64x512.size a)
    (b : Memref sig p.kind sp S64x512 .f32) (hb : b.IsWhole) (ws : DmaSems sig S_)
    (ht : ∀ t, (DmaTarget.here (outRow O (off t) (h t)) : DmaTarget nD τ sig p .hbm S64x512 .f32).Typed sp (.dma ws.sem)) :
    Prog (TpuEff nD τ sig (Elt F) Λ₀ p) PUnit := do
  startOut O (off 0) (h 0) b hb ws (ht 0)
  startOut O (off 1) (h 1) b hb ws (ht 1)
  startOut O (off 2) (h 2) b hb ws (ht 2)
  startOut O (off 3) (h 3) b hb ws (ht 3)

end

/-! ## The tiles' body -/

section Tile
variable (i : grid0.Coords)

/-- The tile at the coordinates `i`. -/
abbrev tileProc : Proc τ := .scVector ((i 0).castLE hcore0) ((i 1).castLE hsub0)

variable (X : Memref sig .scVector .hbm S162x64x512 .f32) (O : Memref sig .scVector .hbm S642x64x512 .f32)

/-- Start the copy of a tile's input row `k`. -/
def tIn (k : Fin 4) (b : Memref sig .scVector .vmem S64x512 .f32) (hb : b.IsWhole) (rs : DmaSems sig S_) :
    Prog (TpuEff nD τ sig (Elt F) Λ₀ (tileProc i)) PUnit :=
  startIn (p := tileProc i) X (k0_off1 i (BitVec.ofNat 32 k.val)) (k0_off1_inb i k) b hb rs ⟨Or.inl rfl, trivial⟩

/-- Await a tile's input row `k`, then start its four copies to the result. -/
def tUse (k : Fin 4) (b : Memref sig .scVector .vmem S64x512 .f32) (hb : b.IsWhole) (rs ws : DmaSems sig S_) :
    Prog (TpuEff nD τ sig (Elt F) Λ₀ (tileProc i)) PUnit := do
  waitIn (p := tileProc i) X (k0_off1 i (BitVec.ofNat 32 k.val)) (k0_off1_inb i k) b hb rs
  outs4 (p := tileProc i) O (fun t => k0_off2 i (BitVec.ofNat 32 k.val) (BitVec.ofNat 32 t.val)) (fun t => k0_off2_inb i k t) b hb ws
    (fun _ => ⟨Or.inl rfl, trivial⟩)

/-- Await the four copies of a tile's buffer. -/
def tDrain (b : Memref sig .scVector .vmem S64x512 .f32) (hb : b.IsWhole) (ws : DmaSems sig S_) :
    Prog (TpuEff nD τ sig (Elt F) Λ₀ (tileProc i)) PUnit :=
  drain4 (p := tileProc i) O b hb ws

/-- The tiles' body, step by step. -/
def tileProg (b0 : Memref sig .scVector .vmem S64x512 .f32) (h0 : b0.IsWhole) (b1 : Memref sig .scVector .vmem S64x512 .f32) (h1 : b1.IsWhole)
    (b2 : Memref sig .scVector .vmem S64x512 .f32) (h2 : b2.IsWhole) (rs0 rs1 rs2 ws0 ws1 ws2 : DmaSems sig S_) :
    Prog (TpuEff nD τ sig (Elt F) Λ₀ (tileProc i)) PUnit := do
  tIn i X 0 b0 h0 rs0
  tIn i X 1 b1 h1 rs1
  tIn i X 2 b2 h2 rs2
  tUse i X O 0 b0 h0 rs0 ws0
  tUse i X O 1 b1 h1 rs1 ws1
  tUse i X O 2 b2 h2 rs2 ws2
  tDrain i O b0 h0 ws0
  tIn i X 3 b0 h0 rs0
  tUse i X O 3 b0 h0 rs0 ws0
  tDrain i O b1 h1 ws1
  tDrain i O b2 h2 ws2
  tDrain i O b0 h0 ws0

end Tile

/-! ## The sequencers' body -/

section Seq
variable (i : grid1.Coords)

/-- The sequencer at the coordinate `i`. -/
abbrev seqProc : Proc τ := .scScalar ((i 0).castLE hcore1)

variable (X : Memref sig .scScalar .hbm S162x64x512 .f32) (O : Memref sig .scScalar .hbm S642x64x512 .f32)

/-- Start the copy of a sequencer's input row `k`. -/
def sIn (k : Fin 16) (b : Memref sig .scScalar .shared S64x512 .f32) (hb : b.IsWhole) (rs : DmaSems sig S_) :
    Prog (TpuEff nD τ sig (Elt F) Λ₀ (seqProc i)) PUnit :=
  startIn (p := seqProc i) X (k1_off1 i (BitVec.ofNat 32 k.val)) (k1_off1_inb i k) b hb rs ⟨Or.inl rfl, trivial⟩

/-- Await a sequencer's input row `k`, then start its four copies to the result. -/
def sUse (k : Fin 16) (b : Memref sig .scScalar .shared S64x512 .f32) (hb : b.IsWhole) (rs ws : DmaSems sig S_) :
    Prog (TpuEff nD τ sig (Elt F) Λ₀ (seqProc i)) PUnit := do
  waitIn (p := seqProc i) X (k1_off1 i (BitVec.ofNat 32 k.val)) (k1_off1_inb i k) b hb rs
  outs4 (p := seqProc i) O (fun t => k1_off2 i (BitVec.ofNat 32 k.val) (BitVec.ofNat 32 t.val)) (fun t => k1_off2_inb i k t) b hb ws
    (fun _ => ⟨Or.inl rfl, trivial⟩)

/-- Await the four copies of a sequencer's buffer. -/
def sDrain (b : Memref sig .scScalar .shared S64x512 .f32) (hb : b.IsWhole) (ws : DmaSems sig S_) :
    Prog (TpuEff nD τ sig (Elt F) Λ₀ (seqProc i)) PUnit :=
  drain4 (p := seqProc i) O b hb ws

/-- A sequencer's buffer taken for its input row `k`: its earlier copies awaited, the row read, its copies started. -/
def sTurn (k : Fin 16) (b : Memref sig .scScalar .shared S64x512 .f32) (hb : b.IsWhole) (rs ws : DmaSems sig S_) :
    Prog (TpuEff nD τ sig (Elt F) Λ₀ (seqProc i)) PUnit := do
  sDrain i O b hb ws
  sIn i X k b hb rs
  sUse i X O k b hb rs ws

/-- The last row of the input, with its two rows of the result. -/
def sLast (b : Memref sig .scScalar .shared S64x512 .f32) (hb : b.IsWhole) (rs ws : DmaSems sig S_) :
    Prog (TpuEff nD τ sig (Elt F) Λ₀ (seqProc i)) PUnit := do
  sDrain i O b hb ws
  startIn (p := seqProc i) X ![160, 0, 0] inb_S162x64x512_S1x64x512_160_0_0 b hb rs ⟨Or.inl rfl, trivial⟩
  waitIn (p := seqProc i) X ![160, 0, 0] inb_S162x64x512_S1x64x512_160_0_0 b hb rs
  startOut (p := seqProc i) O ![640, 0, 0] inb_S642x64x512_S1x64x512_640_0_0 b hb ws ⟨Or.inl rfl, trivial⟩
  startOut (p := seqProc i) O ![641, 0, 0] inb_S642x64x512_S1x64x512_641_0_0 b hb ws ⟨Or.inl rfl, trivial⟩
  waitOut (p := seqProc i) O b hb ws
  waitOut (p := seqProc i) O b hb ws

/-- Whether the sequencer is the second one, as the body computes it. -/
abbrev isSecond : BitVec 1 :=
  Scalar.cmpi .ne (Scalar.extui (Scalar.cmpi .eq (BitVec.ofNat 32 (i 0).val) 1#32 : BitVec 1) : BitVec 32) 0#32

/-- Whether the sequencer is not the second one, as the body computes it. -/
abbrev notSecond : BitVec 1 :=
  Scalar.cmpi .ne (Scalar.extui (Scalar.cmpi .ne (BitVec.ofNat 32 (i 0).val) 1#32 : BitVec 1) : BitVec 32) 0#32

/-- The last row where the sequencer is the second one; the first buffer's copies awaited where it is not. -/
def seqChoice (b0 : Memref sig .scScalar .shared S64x512 .f32) (h0 : b0.IsWhole) (rs0 ws0 : DmaSems sig S_)
    (rest : Prog (TpuEff nD τ sig (Elt F) Λ₀ (seqProc i)) PUnit) :
    Prog (TpuEff nD τ sig (Elt F) Λ₀ (seqProc i)) PUnit := do
  if _hs : isSecond i = 1#1 then do
    sLast i X O b0 h0 rs0 ws0
    pure ⟨⟩
  else do
    pure ⟨⟩
  if _hn : notSecond i = 1#1 then do
    sDrain i O b0 h0 ws0
    pure ⟨⟩
  else do
    pure ⟨⟩
  rest

/-- The end of the sequencers' body: the last row, and every buffer's copies awaited. -/
def seqEnd (b0 : Memref sig .scScalar .shared S64x512 .f32) (h0 : b0.IsWhole) (b1 : Memref sig .scScalar .shared S64x512 .f32) (h1 : b1.IsWhole)
    (b2 : Memref sig .scScalar .shared S64x512 .f32) (h2 : b2.IsWhole) (b3 : Memref sig .scScalar .shared S64x512 .f32) (h3 : b3.IsWhole)
    (rs0 ws0 ws1 ws2 ws3 : DmaSems sig S_) :
    Prog (TpuEff nD τ sig (Elt F) Λ₀ (seqProc i)) PUnit := do
  (do
    seqChoice i X O b0 h0 rs0 ws0 (sDrain i O b1 h1 ws1)
    sDrain i O b2 h2 ws2
    waitOut (p := seqProc i) O b3 h3 ws3
    waitOut (p := seqProc i) O b3 h3 ws3
    waitOut (p := seqProc i) O b3 h3 ws3)
  waitOut (p := seqProc i) O b3 h3 ws3

/-- The sequencers' body, step by step. -/
def seqProg (b0 : Memref sig .scScalar .shared S64x512 .f32) (h0 : b0.IsWhole) (b1 : Memref sig .scScalar .shared S64x512 .f32) (h1 : b1.IsWhole)
    (b2 : Memref sig .scScalar .shared S64x512 .f32) (h2 : b2.IsWhole) (b3 : Memref sig .scScalar .shared S64x512 .f32) (h3 : b3.IsWhole)
    (rs0 rs1 rs2 rs3 ws0 ws1 ws2 ws3 : DmaSems sig S_) :
    Prog (TpuEff nD τ sig (Elt F) Λ₀ (seqProc i)) PUnit := do
  sIn i X 0 b0 h0 rs0
  sIn i X 1 b1 h1 rs1
  sIn i X 2 b2 h2 rs2
  sIn i X 3 b3 h3 rs3
  sUse i X O 0 b0 h0 rs0 ws0
  sUse i X O 1 b1 h1 rs1 ws1
  sUse i X O 2 b2 h2 rs2 ws2
  sUse i X O 3 b3 h3 rs3 ws3
  sTurn i X O 4 b0 h0 rs0 ws0
  sTurn i X O 5 b1 h1 rs1 ws1
  sTurn i X O 6 b2 h2 rs2 ws2
  sTurn i X O 7 b3 h3 rs3 ws3
  sTurn i X O 8 b0 h0 rs0 ws0
  sTurn i X O 9 b1 h1 rs1 ws1
  sTurn i X O 10 b2 h2 rs2 ws2
  sTurn i X O 11 b3 h3 rs3 ws3
  sTurn i X O 12 b0 h0 rs0 ws0
  sTurn i X O 13 b1 h1 rs1 ws1
  sTurn i X O 14 b2 h2 rs2 ws2
  sTurn i X O 15 b3 h3 rs3 ws3
  seqEnd i X O b0 h0 b1 h1 b2 h2 b3 h3 rs0 ws0 ws1 ws2 ws3

end Seq

set_option maxRecDepth 65536 in
/-- The tiles' printed body is the sequence of steps above. -/
theorem tile_eq (i : grid0.Coords) (arg2 : Memref sig .scVector .hbm S162x64x512 .f32) (harg2 : arg2.IsWhole) (arg3 : Memref sig .scVector .hbm S642x64x512 .f32) (harg3 : arg3.IsWhole) (arg4 : Memref sig .scVector .vmem S64x512 .f32) (harg4 : arg4.IsWhole) (arg5 : Memref sig .scVector .vmem S64x512 .f32) (harg5 : arg5.IsWhole) (arg6 : Memref sig .scVector .vmem S64x512 .f32) (harg6 : arg6.IsWhole) (arg7 : DmaSems sig S_) (arg8 : DmaSems sig S_) (arg9 : DmaSems sig S_) (arg10 : DmaSems sig S_) (arg11 : DmaSems sig S_) (arg12 : DmaSems sig S_) (arg13 : Memref sig .scScalar .shared S64x512 .f32) (harg13 : arg13.IsWhole) (arg14 : Memref sig .scScalar .shared S64x512 .f32) (harg14 : arg14.IsWhole) (arg15 : Memref sig .scScalar .shared S64x512 .f32) (harg15 : arg15.IsWhole) (arg16 : Memref sig .scScalar .shared S64x512 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) :
    cc0__tec_body (F := F) i arg2 harg2 arg3 harg3 arg4 harg4 arg5 harg5 arg6 harg6 arg7 arg8 arg9 arg10 arg11 arg12 arg13 harg13 arg14 harg14 arg15 harg15 arg16 harg16 arg17 arg18 arg19 arg20 arg21 arg22 arg23 arg24
      = tileProg i arg2 arg3 arg4 harg4 arg5 harg5 arg6 harg6 arg7 arg8 arg9 arg10 arg11 arg12 := rfl

set_option maxRecDepth 65536 in
/-- The sequencers' printed body is the sequence of steps above. -/
theorem seq_eq (i : grid1.Coords) (arg1 : Memref sig .scScalar .hbm S162x64x512 .f32) (harg1 : arg1.IsWhole) (arg2 : Memref sig .scScalar .hbm S642x64x512 .f32) (harg2 : arg2.IsWhole) (arg3 : Memref sig .scVector .vmem S64x512 .f32) (harg3 : arg3.IsWhole) (arg4 : Memref sig .scVector .vmem S64x512 .f32) (harg4 : arg4.IsWhole) (arg5 : Memref sig .scVector .vmem S64x512 .f32) (harg5 : arg5.IsWhole) (arg6 : DmaSems sig S_) (arg7 : DmaSems sig S_) (arg8 : DmaSems sig S_) (arg9 : DmaSems sig S_) (arg10 : DmaSems sig S_) (arg11 : DmaSems sig S_) (arg12 : Memref sig .scScalar .shared S64x512 .f32) (harg12 : arg12.IsWhole) (arg13 : Memref sig .scScalar .shared S64x512 .f32) (harg13 : arg13.IsWhole) (arg14 : Memref sig .scScalar .shared S64x512 .f32) (harg14 : arg14.IsWhole) (arg15 : Memref sig .scScalar .shared S64x512 .f32) (harg15 : arg15.IsWhole) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) :
    cc1__scs_body (F := F) i arg1 harg1 arg2 harg2 arg3 harg3 arg4 harg4 arg5 harg5 arg6 arg7 arg8 arg9 arg10 arg11 arg12 harg12 arg13 harg13 arg14 harg14 arg15 harg15 arg16 arg17 arg18 arg19 arg20 arg21 arg22 arg23
      = seqProg i arg1 arg2 arg12 harg12 arg13 harg13 arg14 harg14 arg15 harg15 arg16 arg17 arg18 arg19 arg20 arg21 arg22 arg23 := rfl

end Cert.Proof.Copy

end
-- ==== Proof.Copy.Rules.lean ====
module

public import proofs.«01_k».proof.Defs
public import proofs.«01_k».proof.Proof.Copy.Steps
public import Idealize.ShloMosaic.Lib.SparseCore.TwoBodyPrinted
public import Idealize.ShloMosaic.Lib.SparseCore.Ops
public import Idealize.ShloMosaic.Lib.SparseCore.Quiescent
public import Idealize.ShloMosaic.Lib.StableHlo.Run
public import Idealize.ShloMosaic.Lib.Pipeline.Kit
public import Idealize.ShloMosaic.Lib.Tactic

@[expose] public section

/-! # What one step of a body does

A buffer goes through four states. `Free`: nothing is under way on it. `Reading`: an input row is on its
way into it. `Full`: it holds that row. `Writing`: its copies into the rows of the result are under way.
Each rule below says what one step of a body needs and what it leaves, for any thread, any buffer, any
offsets; the value read is carried from state to state. -/

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

/-- The launch's handshakes, and the copies' counters. -/
abbrev UH : Type := URounds (GSem nD τ sig) ℕ
abbrev UU : Type := UH × Counters

local notation "𝕄" => MT nD τ sig (HIx 1) (Elt F) ℕ UU ℕ

/-- The copies' counters in the machine's algebra. -/
abbrev EC : UEmb Counters (MT nD τ sig (HIx 1) (Elt F) ℕ UU ℕ) := countersEmb

variable (c : Thread nD τ) {sp : Space}

/-! ## The states -/

/-- What a thread holds to wait: evidence that it may, and what it owes, its waits so far being old ones or on copies. -/
def Run (O : CellTallies nD τ sig (HIx 1)) (W : Waits sig (HIx 1)) : sProp 𝕄 :=
  iprop(MayWaits c none O ∗ ∃ W', ⌜∀ p ∈ W', p ∈ W ∨ p.2 = none⌝ ∗ owes c O W')

/-- A row of the input, holding `f`. -/
def inPt (X : Memref sig c.2.kind .hbm S162x64x512 .f32) (off : Fin 3 → Nat)
    (h : ∀ a, off a + S1x64x512.size a ≤ S162x64x512.size a) (f : Buf (Elt F) (X.view.loc c)) : sProp 𝕄 :=
  ((inRow X off h).view.loc c ↦[(inRow X off h).view.set]{fullShare} f)

/-- A row of the result, holding `f`. -/
def outPt (O : Memref sig c.2.kind .hbm S642x64x512 .f32) (off : Fin 3 → Nat)
    (h : ∀ a, off a + S1x64x512.size a ≤ S642x64x512.size a) (f : Buf (Elt F) (O.view.loc c)) : sProp 𝕄 :=
  ((outRow O off h).view.loc c ↦[(outRow O off h).view.set]{fullShare} f)

/-- What is read of a row of the input holding `f`. -/
def inVal (X : Memref sig c.2.kind .hbm S162x64x512 .f32) (off : Fin 3 → Nat)
    (h : ∀ a, off a + S1x64x512.size a ≤ S162x64x512.size a) (f : Buf (Elt F) (X.view.loc c)) : S64x512.Idx → Elt F .f32 :=
  (inRow X off h).view.read (Elt F) f

/-- What is read of a row of the result holding `f`. -/
def outVal (O : Memref sig c.2.kind .hbm S642x64x512 .f32) (off : Fin 3 → Nat)
    (h : ∀ a, off a + S1x64x512.size a ≤ S642x64x512.size a) (f : Buf (Elt F) (O.view.loc c)) : S64x512.Idx → Elt F .f32 :=
  (outRow O off h).view.read (Elt F) f

variable (b : Memref sig c.2.kind sp S64x512 .f32) (rs ws : DmaSems sig S_)

/-- Nothing is under way on the buffer. -/
def Free : sProp 𝕄 :=
  iprop((∃ g, b.view.loc c ↦[b.view.set]{fullShare} g) ∗ semVal (c, .dma rs.sem) 0 ∗ semVal (c, .dma ws.sem) 0)

/-- A copy of `v` into the buffer is under way, with `R` to come back beside it. -/
def Reading (v : S64x512.Idx → Elt F .f32) (R : sProp 𝕄) : sProp 𝕄 :=
  iprop((∃ g, Flight EC c (.dma rs.sem) none b.view.dmaCredit
      iprop((b.view.loc c ↦[b.view.set]{fullShare} (b.view.write (Elt F) g v Finset.univ)) ∗ R)) ∗ semVal (c, .dma ws.sem) 0)

/-- The buffer holds `v`. -/
def Full (v : S64x512.Idx → Elt F .f32) : sProp 𝕄 :=
  iprop((∃ g, ⌜b.view.read (Elt F) g = v⌝ ∗ b.view.loc c ↦[b.view.set]{fullShare} g) ∗ semVal (c, .dma rs.sem) 0 ∗ semVal (c, .dma ws.sem) 0)

instance outPt_storable (O : Memref sig c.2.kind .hbm S642x64x512 .f32) (off : Fin 3 → Nat)
    (h : ∀ a, off a + S1x64x512.size a ≤ S642x64x512.size a) (f : Buf (Elt F) (O.view.loc c)) :
    BI.Storable (upEmb : UEmb _ 𝕄) (outPt c O off h f) :=
  (inferInstance : BI.Storable (upEmb : UEmb _ 𝕄)
    ((outRow O off h).view.loc c ↦[(outRow O off h).view.set]{fullShare} (show Buf (Elt F) ((outRow O off h).view.loc c) from f)))

/-- What the copies of a buffer into `n` rows of the result bring back: each its row, holding `G`, and its share of the buffer. -/
def brought {n : ℕ} (O : Memref sig c.2.kind .hbm S642x64x512 .f32) (off : Fin n → Fin 3 → Nat)
    (h : ∀ t a, off t a + S1x64x512.size a ≤ S642x64x512.size a) (G : Buf (Elt F) (O.view.loc c)) (g : Buf (Elt F) (b.view.loc c))
    (t : Fin n) : sProp 𝕄 :=
  iprop(outPt c O (off t) (h t) G ∗ b.view.loc c ↦[b.view.set]{shareTok fullShare n t} g)

instance brought_storable {n : ℕ} (O : Memref sig c.2.kind .hbm S642x64x512 .f32) (off : Fin n → Fin 3 → Nat)
    (h : ∀ t a, off t a + S1x64x512.size a ≤ S642x64x512.size a) (G : Buf (Elt F) (O.view.loc c)) (g : Buf (Elt F) (b.view.loc c))
    (t : Fin n) : BI.Storable (upEmb : UEmb _ 𝕄) (brought c b O off h G g t) := by
  unfold brought; infer_instance

/-- One row's copy, in what a semaphore counts. -/
abbrev outCredit (O : Memref sig c.2.kind .hbm S642x64x512 .f32) : ℕ :=
  (outRow O ![0, 0, 0] inb_S642x64x512_S1x64x512_0_0_0).view.dmaCredit

theorem outCredit_pos (O : Memref sig c.2.kind .hbm S642x64x512 .f32) : 0 < outCredit c O :=
  View.dmaCredit_pos _ (by decide)

/-- `j` of the `n` copies of a buffer into rows of the result are started, `u` awaited. -/
def Sending {n : ℕ} (O : Memref sig c.2.kind .hbm S642x64x512 .f32) (off : Fin n → Fin 3 → Nat)
    (h : ∀ t a, off t a + S1x64x512.size a ≤ S642x64x512.size a) (G : Buf (Elt F) (O.view.loc c)) (g : Buf (Elt F) (b.view.loc c))
    (j u : ℕ) : sProp 𝕄 :=
  Batch EC c (.dma ws.sem) none (outCredit c O) (brought c b O off h G g) j (u * outCredit c O)

/-- All copies of the buffer into the `n` rows of the result at the offsets `off` are under way, each to leave `G` there. -/
def Writing {n : ℕ} (O : Memref sig c.2.kind .hbm S642x64x512 .f32) (off : Fin n → Fin 3 → Nat)
    (h : ∀ t a, off t a + S1x64x512.size a ≤ S642x64x512.size a) (G : Buf (Elt F) (O.view.loc c)) : sProp 𝕄 :=
  iprop((∃ g, (b.view.loc c ↦[b.view.set]{shareDrop fullShare n} g) ∗ Sending c b ws O off h G g n 0) ∗ semVal (c, .dma rs.sem) 0)

/-! ## The steps -/

variable {c b rs ws}
variable {Q : PUnit → sProp (MT nD τ sig (HIx 1) (Elt F) ℕ UU ℕ)}
variable {k : PUnit → Prog (TpuEff nD τ sig (Elt F) Λ₀ c.2) PUnit}
variable {hb : b.IsWhole}
variable {X : Memref sig c.2.kind .hbm S162x64x512 .f32} {O : Memref sig c.2.kind .hbm S642x64x512 .f32}

theorem wp_startIn {off : Fin 3 → Nat} {h : ∀ a, off a + S1x64x512.size a ≤ S162x64x512.size a} {ht} {f : Buf (Elt F) (X.view.loc c)} :
    iprop(Free c b rs ws ∗ inPt c X off h f)
      ⊢ iprop((Reading c b rs ws (inVal c X off h f) (inPt c X off h f) -∗ wp frame (wpE defs₀ Variants.none c none) Set.univ (k ⟨⟩) Q)
        -∗ wp frame (wpE defs₀ Variants.none c none) Set.univ (startIn (p := c.2) X off h b hb rs ht >>= k) Q) := by
  have hpos : 0 < b.view.dmaCredit := View.dmaCredit_pos _ (by decide)
  unfold Free Reading inPt inVal
  iintro ⟨⟨⟨%g, Hb⟩, Hr, Hw⟩, Hx⟩ Hk
  iapply (wp_dmaLocal EC Variants.none c none (q := fullShare) none b.view.dmaCredit (rfl : b.view.amount (.dma rs.sem) = b.view.dmaCredit)
    hpos (Finset.Subset.refl b.view.set)) $$ [Hx Hb Hr]
  · isplitl [Hx]; · iexact Hx
    isplitl [Hb]; · iexact Hb
    iexact Hr
  iintro Hf
  iapply Hk
  isplitr [Hw]
  · iexists g; iexact Hf
  · iexact Hw

theorem wp_waitIn {off : Fin 3 → Nat} {h : ∀ a, off a + S1x64x512.size a ≤ S162x64x512.size a} {v : S64x512.Idx → Elt F .f32} {R : sProp 𝕄}
    {Ow : CellTallies nD τ sig (HIx 1)} {W : Waits sig (HIx 1)} :
    iprop(Reading c b rs ws v R ∗ Run c Ow W)
      ⊢ iprop((iprop(Full c b rs ws v ∗ R ∗ Run c Ow W) -∗ wp frame (wpE defs₀ Variants.none c none) Set.univ (k ⟨⟩) Q)
        -∗ wp frame (wpE defs₀ Variants.none c none) Set.univ (waitIn (p := c.2) X off h b hb rs >>= k) Q) := by
  unfold Full Reading Run
  iintro ⟨⟨⟨%g, Hf⟩, Hw⟩, #Hmw, ⟨%W', %hW, HO⟩⟩ Hk
  iapply (wp_waitLocalO EC Variants.none c none none (rfl : b.view.dmaCredit = _)) $$ [Hf HO]
  · isplitl [Hf]; · iexact Hf
    isplitl [HO]; · iexact HO
    iapply (MayWaits.elim (.dma rs.sem)) $$ Hmw
  iintro ⟨⟨Hb, HR⟩, Hr, HO⟩
  iapply Hk
  isplitl [Hb Hr Hw]
  · isplitl [Hb]
    · iexists (b.view.write (Elt F) g v Finset.univ)
      isplitr
      · ipureintro; exact View.read_write_univ _ _
      · iexact Hb
    isplitl [Hr]; · iexact Hr
    iexact Hw
  isplitl [HR]; · iexact HR
  isplitr; · iexact Hmw
  iexists (insert (SemLoc.dma rs.sem, none) W')
  isplitr
  · ipureintro
    intro p hp
    rcases Finset.mem_insert.mp hp with rfl | hp
    · exact .inr rfl
    · exact hW p hp
  · iexact HO

/-- A row of the result on which what a row holding `G` reads was written holds `G`. -/
theorem outPt_written {off : Fin 3 → Nat} {h : ∀ a, off a + S1x64x512.size a ≤ S642x64x512.size a} {f G : Buf (Elt F) (O.view.loc c)}
    {v : S64x512.Idx → Elt F .f32} (hG : outVal c O off h G = v) :
    (((outRow O off h).view.loc c ↦[(outRow O off h).view.set]{fullShare} ((outRow O off h).view.write (Elt F) f v Finset.univ)) : sProp 𝕄)
      = outPt c O off h G := by
  subst hG
  unfold outPt outVal
  refine pointsTo_congr fun i hi => ?_
  exact (congrFun (View.write_read_eq_piecewise (v := (outRow O off h).view) f G Finset.univ) i).trans
    (Finset.piecewise_eq_of_mem _ _ _ hi)

/-- Start one more of the `n` copies. -/
theorem wp_startOut {n : ℕ} {off : Fin n → Fin 3 → Nat} {h : ∀ t a, off t a + S1x64x512.size a ≤ S642x64x512.size a}
    {f G : Buf (Elt F) (O.view.loc c)} {g : Buf (Elt F) (b.view.loc c)} (j : ℕ) (hj : j < n)
    {ht : (DmaTarget.here (outRow O (off ⟨j, hj⟩) (h ⟨j, hj⟩)) : DmaTarget nD τ sig c.2 .hbm S64x512 .f32).Typed sp (.dma ws.sem)}
    (hG : outVal c O (off ⟨j, hj⟩) (h ⟨j, hj⟩) G = b.view.read (Elt F) g) :
    iprop((b.view.loc c ↦[b.view.set]{shareTok fullShare n ⟨j, hj⟩} g) ∗ outPt c O (off ⟨j, hj⟩) (h ⟨j, hj⟩) f ∗ Sending c b ws O off h G g j 0)
      ⊢ iprop((Sending c b ws O off h G g (j + 1) 0 -∗ wp frame (wpE defs₀ Variants.none c none) Set.univ (k ⟨⟩) Q)
        -∗ wp frame (wpE defs₀ Variants.none c none) Set.univ
            (startOut (p := c.2) O (off ⟨j, hj⟩) (h ⟨j, hj⟩) b hb ws ht >>= k) Q) := by
  have hu : 0 * outCredit c O ≤ j * outCredit c O := by simp
  have hN : (outRow O (off ⟨j, hj⟩) (h ⟨j, hj⟩)).view.amount (.dma ws.sem) = outCredit c O := rfl
  have hD : iprop(((outRow O (off ⟨j, hj⟩) (h ⟨j, hj⟩)).view.loc c ↦[(outRow O (off ⟨j, hj⟩) (h ⟨j, hj⟩)).view.set]{fullShare}
        ((outRow O (off ⟨j, hj⟩) (h ⟨j, hj⟩)).view.write (Elt F) f (b.view.read (Elt F) g) Finset.univ))
      ∗ (b.view.loc c ↦[b.view.set]{shareTok fullShare n ⟨j, hj⟩} g)) ⊢ (brought c b O off h G g ⟨j, hj⟩ : sProp 𝕄) := by
    rw [outPt_written hG]; exact .rfl
  unfold Sending
  iintro ⟨Hb, Ho, HB⟩ Hk
  have R := wp_dmaBatch (defs := defs₀ (F := F)) (Q := Q) (k := k) EC Variants.none c none (src := b) (via := .same)
    (dst := outRow O (off ⟨j, hj⟩) (h ⟨j, hj⟩)) (D := brought c b O off h G g)
    (hsrc := hb.wordExact) (hdst := (View.wordExact_bits rfl).reshape _ _) (hsem := ht)
    (q := shareTok fullShare n ⟨j, hj⟩) (fs := g) (fd := f) (u := 0 * outCredit c O) none (outCredit c O) hN
    (Finset.Subset.refl (outRow O (off ⟨j, hj⟩) (h ⟨j, hj⟩)).view.set) hj hu hD
  iapply R $$ [Hb Ho HB]
  · isplitl [Hb]; · iexact Hb
    isplitl [Ho]; · unfold outPt; iexact Ho
    iexact HB
  iintro HB
  iapply Hk
  iexact HB

/-- Await one of the `n` copies, all started, not the last. -/
theorem wp_waitOut {n : ℕ} {off : Fin n → Fin 3 → Nat} {h : ∀ t a, off t a + S1x64x512.size a ≤ S642x64x512.size a}
    {G : Buf (Elt F) (O.view.loc c)} {g : Buf (Elt F) (b.view.loc c)} (u : ℕ) (hu : u + 1 < n)
    {Ow : CellTallies nD τ sig (HIx 1)} {W : Waits sig (HIx 1)} :
    iprop(Sending c b ws O off h G g n u ∗ Run c Ow W)
      ⊢ iprop((iprop(Sending c b ws O off h G g n (u + 1) ∗ Run c Ow W) -∗ wp frame (wpE defs₀ Variants.none c none) Set.univ (k ⟨⟩) Q)
        -∗ wp frame (wpE defs₀ Variants.none c none) Set.univ (waitOut (p := c.2) O b hb ws >>= k) Q) := by
  have hpos := outCredit_pos c O
  have hlt : u * outCredit c O + outCredit c O < outCredit c O * n := by
    rw [show u * outCredit c O + outCredit c O = outCredit c O * (u + 1) by ring]; exact Nat.mul_lt_mul_of_pos_left hu hpos
  unfold Sending Run
  iintro ⟨HB, #Hmw, ⟨%W', %hW, HO⟩⟩ Hk
  iapply (wp_waitBatchO EC Variants.none c none none (rfl : _ = outCredit c O) (n := n) (u := u * outCredit c O) hlt) $$ [HB HO]
  · isplitl [HB]; · iexact HB
    isplitl [HO]; · iexact HO
    iapply (MayWaits.elim (.dma ws.sem)) $$ Hmw
  iintro ⟨HB, HO⟩
  iapply Hk
  isplitl [HB]; · rw [show (u + 1) * outCredit c O = u * outCredit c O + outCredit c O by ring]; iexact HB
  isplitr; · iexact Hmw
  iexists (insert (SemLoc.dma ws.sem, none) W')
  isplitr
  · ipureintro
    intro p hp
    rcases Finset.mem_insert.mp hp with rfl | hp
    · exact .inr rfl
    · exact hW p hp
  · iexact HO

/-- Await the last of the `n` copies: every row and every share of the buffer is back. -/
theorem wp_waitOutLast {n : ℕ} {off : Fin n → Fin 3 → Nat} {h : ∀ t a, off t a + S1x64x512.size a ≤ S642x64x512.size a}
    {G : Buf (Elt F) (O.view.loc c)} {g : Buf (Elt F) (b.view.loc c)} (u : ℕ) (hu : u + 1 = n)
    {Ow : CellTallies nD τ sig (HIx 1)} {W : Waits sig (HIx 1)} :
    iprop(Sending c b ws O off h G g n u ∗ Run c Ow W)
      ⊢ iprop((iprop(bigSep Finset.univ (brought c b O off h G g) ∗ semVal (c, .dma ws.sem) 0 ∗ Run c Ow W)
            -∗ wp frame (wpE defs₀ Variants.none c none) Set.univ (k ⟨⟩) Q)
        -∗ wp frame (wpE defs₀ Variants.none c none) Set.univ (waitOut (p := c.2) O b hb ws >>= k) Q) := by
  have hpos := outCredit_pos c O
  have heq : u * outCredit c O + outCredit c O = outCredit c O * n := by rw [← hu]; ring
  unfold Sending Run
  iintro ⟨HB, #Hmw, ⟨%W', %hW, HO⟩⟩ Hk
  iapply (wp_waitBatchLastO EC Variants.none c none none (rfl : _ = outCredit c O) hpos (n := n) (u := u * outCredit c O) heq) $$ [HB HO]
  · isplitl [HB]; · iexact HB
    isplitl [HO]; · iexact HO
    iapply (MayWaits.elim (.dma ws.sem)) $$ Hmw
  iintro ⟨HD, Hw, HO⟩
  iapply Hk
  isplitl [HD]; · iexact HD
  isplitl [Hw]; · iexact Hw
  isplitr; · iexact Hmw
  iexists (insert (SemLoc.dma ws.sem, none) W')
  isplitr
  · ipureintro
    intro p hp
    rcases Finset.mem_insert.mp hp with rfl | hp
    · exact .inr rfl
    · exact hW p hp
  · iexact HO

/-! ## Runs of steps -/

/-- A full buffer, before the first of its `n` copies: the copies' account is opened and the buffer dealt into shares. -/
theorem sending_start {n : ℕ} {off : Fin n → Fin 3 → Nat} {h : ∀ t a, off t a + S1x64x512.size a ≤ S642x64x512.size a}
    {G : Buf (Elt F) (O.view.loc c)} {v : S64x512.Idx → Elt F .f32} :
    (Full c b rs ws v : sProp 𝕄) ⊢ |={Set.univ}=> iprop(∃ g, ⌜b.view.read (Elt F) g = v⌝ ∗ (b.view.loc c ↦[b.view.set]{shareDrop fullShare n} g)
        ∗ bigSep Finset.univ (fun t : Fin n => b.view.loc c ↦[b.view.set]{shareTok fullShare n t} g)
        ∗ Sending c b ws O off h G g 0 0 ∗ semVal (c, .dma rs.sem) 0) := by
  unfold Full
  iintro ⟨⟨%g, %hg, Hb⟩, Hr, Hw⟩
  imod (batch_alloc' EC c none (outCredit c O) (brought c b O off h G g) (sm := .dma ws.sem) (E := Set.univ)) $$ Hw with HB
  imodintro
  ihave Hb' := (pointsTo_toks_split fullShare n) $$ Hb
  icases Hb' with ⟨Hd, Ht⟩
  iexists g
  isplitr; · ipureintro; exact hg
  isplitl [Hd]; · iexact Hd
  isplitl [Ht]; · iexact Ht
  isplitl [HB]; · unfold Sending; rw [Nat.zero_mul]; iexact HB
  iexact Hr

/-- All copies back: the rows hold `G`, and nothing is under way on the buffer. -/
theorem sending_end {n : ℕ} {off : Fin n → Fin 3 → Nat} {h : ∀ t a, off t a + S1x64x512.size a ≤ S642x64x512.size a}
    {G : Buf (Elt F) (O.view.loc c)} {g : Buf (Elt F) (b.view.loc c)} :
    iprop((b.view.loc c ↦[b.view.set]{shareDrop fullShare n} g) ∗ bigSep Finset.univ (brought c b O off h G g)
        ∗ semVal (c, .dma ws.sem) 0 ∗ semVal (c, .dma rs.sem) 0)
      ⊢ (iprop(Free c b rs ws ∗ bigSep Finset.univ (fun t => outPt c O (off t) (h t) G)) : sProp 𝕄) := by
  unfold Free brought
  iintro ⟨Hd, HD, Hw, Hr⟩
  ihave HD' := (Entails.of_eq (bigSep_sep' _ _ _)) $$ HD
  icases HD' with ⟨Ho, Ht⟩
  isplitr [Ho]
  · isplitl [Hd Ht]
    · iexists g
      iapply (pointsTo_toks_join fullShare n)
      isplitl [Hd]; · iexact Hd
      iexact Ht
    isplitl [Hr]; · iexact Hr
    iexact Hw
  · iexact Ho

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_two (Φ : Fin 2 → sProp 𝕄) : bigSep Finset.univ Φ = iprop(Φ 0 ∗ Φ 1) :=
  bigSep_univ_eq_bigSepL [0, 1] (by decide) (by decide) Φ

theorem wp_outs4 {off : Fin 4 → Fin 3 → Nat} {h : ∀ t a, off t a + S1x64x512.size a ≤ S642x64x512.size a} {ht}
    {f G : Buf (Elt F) (O.view.loc c)} {v : S64x512.Idx → Elt F .f32} (hG : ∀ t, outVal c O (off t) (h t) G = v) :
    iprop(Full c b rs ws v ∗ bigSep Finset.univ (fun t => outPt c O (off t) (h t) f))
      ⊢ iprop((Writing c b rs ws O off h G -∗ wp frame (wpE defs₀ Variants.none c none) Set.univ (k ⟨⟩) Q)
        -∗ wp frame (wpE defs₀ Variants.none c none) Set.univ (outs4 (p := c.2) O off h b hb ws ht >>= k) Q) := by
  iintro ⟨HF, Ho⟩ Hk
  imod (sending_start (O := O) (off := off) (h := h) (G := G)) $$ HF with ⟨%g, %hg, Hd, Ht, HB, Hr⟩
  ihave Ho := (Entails.of_eq (bigSep_four _)) $$ Ho
  ihave Ht := (Entails.of_eq (bigSep_four _)) $$ Ht
  icases Ho with ⟨O0, O1, O2, O3⟩
  icases Ht with ⟨T0, T1, T2, T3⟩
  unfold outs4
  simp only [bind_assoc]
  iapply (wp_startOut (f := f) (G := G) 0 (by decide) ((hG 0).trans hg.symm)) $$ [T0 O0 HB]
  · isplitl [T0]; · iexact T0
    isplitl [O0]; · iexact O0
    iexact HB
  iintro HB
  iapply (wp_startOut (f := f) (G := G) 1 (by decide) ((hG 1).trans hg.symm)) $$ [T1 O1 HB]
  · isplitl [T1]; · iexact T1
    isplitl [O1]; · iexact O1
    iexact HB
  iintro HB
  iapply (wp_startOut (f := f) (G := G) 2 (by decide) ((hG 2).trans hg.symm)) $$ [T2 O2 HB]
  · isplitl [T2]; · iexact T2
    isplitl [O2]; · iexact O2
    iexact HB
  iintro HB
  iapply (wp_startOut (f := f) (G := G) 3 (by decide) ((hG 3).trans hg.symm)) $$ [T3 O3 HB]
  · isplitl [T3]; · iexact T3
    isplitl [O3]; · iexact O3
    iexact HB
  iintro HB
  iapply Hk
  unfold Writing
  isplitr [Hr]
  · iexists g
    isplitl [Hd]; · iexact Hd
    iexact HB
  · iexact Hr

theorem wp_drain4 {off : Fin 4 → Fin 3 → Nat} {h : ∀ t a, off t a + S1x64x512.size a ≤ S642x64x512.size a}
    {G : Buf (Elt F) (O.view.loc c)} {Ow : CellTallies nD τ sig (HIx 1)} {W : Waits sig (HIx 1)} :
    iprop(Writing c b rs ws O off h G ∗ Run c Ow W)
      ⊢ iprop((iprop(Free c b rs ws ∗ bigSep Finset.univ (fun t => outPt c O (off t) (h t) G) ∗ Run c Ow W)
            -∗ wp frame (wpE defs₀ Variants.none c none) Set.univ (k ⟨⟩) Q)
        -∗ wp frame (wpE defs₀ Variants.none c none) Set.univ (drain4 (p := c.2) O b hb ws >>= k) Q) := by
  unfold Writing drain4
  simp only [bind_assoc]
  iintro ⟨⟨⟨%g, Hd, HB⟩, Hr⟩, HR⟩ Hk
  iapply (wp_waitOut (n := 4) 0 (by decide)) $$ [HB HR]
  · isplitl [HB]; · iexact HB
    iexact HR
  iintro ⟨HB, HR⟩
  iapply (wp_waitOut (n := 4) 1 (by decide)) $$ [HB HR]
  · isplitl [HB]; · iexact HB
    iexact HR
  iintro ⟨HB, HR⟩
  iapply (wp_waitOut (n := 4) 2 (by decide)) $$ [HB HR]
  · isplitl [HB]; · iexact HB
    iexact HR
  iintro ⟨HB, HR⟩
  iapply (wp_waitOutLast (n := 4) 3 rfl) $$ [HB HR]
  · isplitl [HB]; · iexact HB
    iexact HR
  iintro ⟨HD, Hw, HR⟩
  iapply Hk
  ihave H := sending_end $$ [Hd HD Hw Hr]
  · isplitl [Hd]; · iexact Hd
    isplitl [HD]; · iexact HD
    isplitl [Hw]; · iexact Hw
    iexact Hr
  icases H with ⟨HF, Ho⟩
  isplitl [HF]; · iexact HF
  isplitl [Ho]; · iexact Ho
  iexact HR

/-- The last row's two copies, started and awaited. -/
theorem wp_pair {off : Fin 2 → Fin 3 → Nat} {h : ∀ t a, off t a + S1x64x512.size a ≤ S642x64x512.size a} {ht0 ht1}
    {f G : Buf (Elt F) (O.view.loc c)} {v : S64x512.Idx → Elt F .f32} (hG : ∀ t, outVal c O (off t) (h t) G = v)
    {Ow : CellTallies nD τ sig (HIx 1)} {W : Waits sig (HIx 1)} :
    iprop(Full c b rs ws v ∗ outPt c O (off 0) (h 0) f ∗ outPt c O (off 1) (h 1) f ∗ Run c Ow W)
      ⊢ iprop((iprop(Free c b rs ws ∗ outPt c O (off 0) (h 0) G ∗ outPt c O (off 1) (h 1) G ∗ Run c Ow W)
            -∗ wp frame (wpE defs₀ Variants.none c none) Set.univ (k ⟨⟩) Q)
        -∗ wp frame (wpE defs₀ Variants.none c none) Set.univ
          (startOut (p := c.2) O (off 0) (h 0) b hb ws ht0 >>= fun _ => startOut (p := c.2) O (off 1) (h 1) b hb ws ht1 >>= fun _ =>
            waitOut (p := c.2) O b hb ws >>= fun _ => waitOut (p := c.2) O b hb ws >>= k) Q) := by
  iintro ⟨HF, O0, O1, HR⟩ Hk
  imod (sending_start (O := O) (off := off) (h := h) (G := G)) $$ HF with ⟨%g, %hg, Hd, Ht, HB, Hr⟩
  ihave Ht := (Entails.of_eq (bigSep_two _)) $$ Ht
  icases Ht with ⟨T0, T1⟩
  iapply (wp_startOut (f := f) (G := G) 0 (by decide) ((hG 0).trans hg.symm)) $$ [T0 O0 HB]
  · isplitl [T0]; · iexact T0
    isplitl [O0]; · iexact O0
    iexact HB
  iintro HB
  iapply (wp_startOut (f := f) (G := G) 1 (by decide) ((hG 1).trans hg.symm)) $$ [T1 O1 HB]
  · isplitl [T1]; · iexact T1
    isplitl [O1]; · iexact O1
    iexact HB
  iintro HB
  iapply (wp_waitOut (n := 2) 0 (by decide)) $$ [HB HR]
  · isplitl [HB]; · iexact HB
    iexact HR
  iintro ⟨HB, HR⟩
  iapply (wp_waitOutLast (n := 2) 1 rfl) $$ [HB HR]
  · isplitl [HB]; · iexact HB
    iexact HR
  iintro ⟨HD, Hw, HR⟩
  iapply Hk
  ihave H := sending_end $$ [Hd HD Hw Hr]
  · isplitl [Hd]; · iexact Hd
    isplitl [HD]; · iexact HD
    isplitl [Hw]; · iexact Hw
    iexact Hr
  icases H with ⟨HF, Ho⟩
  ihave Ho := (Entails.of_eq (bigSep_two _)) $$ Ho
  icases Ho with ⟨Ho0, Ho1⟩
  isplitl [HF]; · iexact HF
  isplitl [Ho0]; · iexact Ho0
  isplitl [Ho1]; · iexact Ho1
  iexact HR

end Cert.Proof.Copy

end
-- ==== Proof.Copy.Bodies.lean ====
module

public import proofs.«01_k».proof.Proof.Copy.Rules

@[expose] public section

/-! # The bodies, run

A job is one row of the input with its four rows of the result. A body takes its jobs through its buffers;
each rule here is one of the moves of that, and the two theorems at the end run a whole body: every job it
was given comes back done. They hold for any processor coordinates. -/

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The moves -/

section Moves
variable (c : Thread nD τ) {sp : Space}
variable (b : Memref sig c.2.kind sp S64x512 .f32) (rs ws : DmaSems sig S_)
variable (X : Memref sig c.2.kind .hbm S162x64x512 .f32) (O : Memref sig c.2.kind .hbm S642x64x512 .f32)
variable (off : Fin 3 → Nat) (h : ∀ a, off a + S1x64x512.size a ≤ S162x64x512.size a)
variable (offs : Fin 4 → Fin 3 → Nat) (hs : ∀ t a, offs t a + S1x64x512.size a ≤ S642x64x512.size a)
variable (f : Buf (Elt F) (X.view.loc c)) (fo : Buf (Elt F) (O.view.loc c))

/-- A row of the input with its four rows of the result, these holding `fo`. -/
def Job : sProp 𝕄 := iprop(inPt c X off h f ∗ bigSep Finset.univ (fun t => outPt c O (offs t) (hs t) fo))

/-- The row is on its way into the buffer. -/
def Taken : sProp 𝕄 :=
  iprop(Reading c b rs ws (inVal c X off h f) (inPt c X off h f) ∗ bigSep Finset.univ (fun t => outPt c O (offs t) (hs t) fo))

/-- The buffer's copies are on their way, each to leave `fo` on its row. -/
def Busy : sProp 𝕄 := iprop(Writing c b rs ws O offs hs fo ∗ inPt c X off h f)

variable {c b rs ws X O off h offs hs f fo}
variable {Q : PUnit → sProp (MT nD τ sig (HIx 1) (Elt F) ℕ UU ℕ)}
variable {k : PUnit → Prog (TpuEff nD τ sig (Elt F) Λ₀ c.2) PUnit}
variable {hb : b.IsWhole} {Ow : CellTallies nD τ sig (HIx 1)} {W : Waits sig (HIx 1)}

theorem wp_take {ht} :
    iprop(Free c b rs ws ∗ Job c X O off h offs hs f fo)
      ⊢ iprop((Taken c b rs ws X O off h offs hs f fo -∗ wp frame (wpE defs₀ Variants.none c none) Set.univ (k ⟨⟩) Q)
        -∗ wp frame (wpE defs₀ Variants.none c none) Set.univ (startIn (p := c.2) X off h b hb rs ht >>= k) Q) := by
  unfold Job Taken
  iintro ⟨HF, Hx, Ho⟩ Hk
  iapply wp_startIn $$ [HF Hx]
  · isplitl [HF]; · iexact HF
    iexact Hx
  iintro HR
  iapply Hk
  isplitl [HR]; · iexact HR
  iexact Ho

theorem wp_use {ht} {G : Buf (Elt F) (O.view.loc c)} (hG : ∀ t, outVal c O (offs t) (hs t) G = inVal c X off h f) :
    iprop(Taken c b rs ws X O off h offs hs f fo ∗ Run c Ow W)
      ⊢ iprop((iprop(Busy c b rs ws X O off h offs hs f G ∗ Run c Ow W) -∗ wp frame (wpE defs₀ Variants.none c none) Set.univ (k ⟨⟩) Q)
        -∗ wp frame (wpE defs₀ Variants.none c none) Set.univ
          (waitIn (p := c.2) X off h b hb rs >>= fun _ => outs4 (p := c.2) O offs hs b hb ws ht >>= k) Q) := by
  unfold Taken Busy
  iintro ⟨⟨HF, Ho⟩, HR⟩ Hk
  iapply wp_waitIn $$ [HF HR]
  · isplitl [HF]; · iexact HF
    iexact HR
  iintro ⟨HF, Hx, HR⟩
  iapply (wp_outs4 (f := fo) hG) $$ [HF Ho]
  · isplitl [HF]; · iexact HF
    iexact Ho
  iintro HW
  iapply Hk
  isplitl [HW Hx]
  · isplitl [HW]; · iexact HW
    iexact Hx
  · iexact HR

theorem wp_retire :
    iprop(Busy c b rs ws X O off h offs hs f fo ∗ Run c Ow W)
      ⊢ iprop((iprop(Free c b rs ws ∗ Job c X O off h offs hs f fo ∗ Run c Ow W)
            -∗ wp frame (wpE defs₀ Variants.none c none) Set.univ (k ⟨⟩) Q)
        -∗ wp frame (wpE defs₀ Variants.none c none) Set.univ (drain4 (p := c.2) O b hb ws >>= k) Q) := by
  unfold Job Busy
  iintro ⟨⟨HW, Hx⟩, HR⟩ Hk
  iapply wp_drain4 $$ [HW HR]
  · isplitl [HW]; · iexact HW
    iexact HR
  iintro ⟨HF, Ho, HR⟩
  iapply Hk
  isplitl [HF]; · iexact HF
  isplitl [Hx Ho]
  · isplitl [Hx]; · iexact Hx
    iexact Ho
  · iexact HR

end Moves

/-! ## The tiles' body -/

section Tile
variable (d : Dev nD) (i : grid0.Coords)

/-- The thread of the tile at the coordinates `i`. -/
abbrev tT : Thread nD τ := (d, tileProc i)

variable (X : Memref sig .scVector .hbm S162x64x512 .f32) (O : Memref sig .scVector .hbm S642x64x512 .f32)
variable (f : Buf (Elt F) (X.view.loc (tT d i))) (fo : Buf (Elt F) (O.view.loc (tT d i)))

/-- A tile's job `k`. -/
def TJob (k : Fin 4) : sProp 𝕄 :=
  Job (tT d i) X O (k0_off1 i (BitVec.ofNat 32 k.val)) (k0_off1_inb i k)
    (fun t => k0_off2 i (BitVec.ofNat 32 k.val) (BitVec.ofNat 32 t.val)) (fun t => k0_off2_inb i k t) f fo

/-- A tile's job `k` with its row on its way into a buffer. -/
def TTaken (b : Memref sig .scVector .vmem S64x512 .f32) (rs ws : DmaSems sig S_) (k : Fin 4) : sProp 𝕄 :=
  Taken (tT d i) b rs ws X O (k0_off1 i (BitVec.ofNat 32 k.val)) (k0_off1_inb i k)
    (fun t => k0_off2 i (BitVec.ofNat 32 k.val) (BitVec.ofNat 32 t.val)) (fun t => k0_off2_inb i k t) f fo

/-- A tile's job `k` with its copies on their way. -/
def TBusy (b : Memref sig .scVector .vmem S64x512 .f32) (rs ws : DmaSems sig S_) (k : Fin 4) : sProp 𝕄 :=
  Busy (tT d i) b rs ws X O (k0_off1 i (BitVec.ofNat 32 k.val)) (k0_off1_inb i k)
    (fun t => k0_off2 i (BitVec.ofNat 32 k.val) (BitVec.ofNat 32 t.val)) (fun t => k0_off2_inb i k t) f fo

/-- What is to be left on the rows of job `k` is what its input row reads. -/
def TAgree (G : Buf (Elt F) (O.view.loc (tT d i))) (k : Fin 4) : Prop :=
  ∀ t : Fin 4, outVal (tT d i) O (k0_off2 i (BitVec.ofNat 32 k.val) (BitVec.ofNat 32 t.val)) (k0_off2_inb i k t) G
    = inVal (tT d i) X (k0_off1 i (BitVec.ofNat 32 k.val)) (k0_off1_inb i k) f

variable {d i X O f fo}
variable {Q : PUnit → sProp (MT nD τ sig (HIx 1) (Elt F) ℕ UU ℕ)} {r : PUnit → Prog (TpuEff nD τ sig (Elt F) Λ₀ (tileProc i)) PUnit}
variable {Ow : CellTallies nD τ sig (HIx 1)} {W : Waits sig (HIx 1)}
variable {b : Memref sig .scVector .vmem S64x512 .f32} {hb : b.IsWhole} {rs ws : DmaSems sig S_}

theorem wp_tIn (k : Fin 4) :
    iprop(Free (tT d i) b rs ws ∗ TJob d i X O f fo k)
      ⊢ iprop((TTaken d i X O f fo b rs ws k -∗ wp frame (wpE defs₀ Variants.none (tT d i) none) Set.univ (r ⟨⟩) Q)
        -∗ wp frame (wpE defs₀ Variants.none (tT d i) none) Set.univ (tIn i X k b hb rs >>= r) Q) :=
  wp_take

theorem wp_tUse (k : Fin 4) {G : Buf (Elt F) (O.view.loc (tT d i))} (hG : TAgree d i X O f G k) :
    iprop(TTaken d i X O f fo b rs ws k ∗ Run (tT d i) Ow W)
      ⊢ iprop((iprop(TBusy d i X O f G b rs ws k ∗ Run (tT d i) Ow W)
            -∗ wp frame (wpE defs₀ Variants.none (tT d i) none) Set.univ (r ⟨⟩) Q)
        -∗ wp frame (wpE defs₀ Variants.none (tT d i) none) Set.univ (tUse i X O k b hb rs ws >>= r) Q) := by
  unfold tUse
  simp only [bind_assoc]
  exact wp_use (c := tT d i) hG

theorem wp_tDrain (k : Fin 4) :
    iprop(TBusy d i X O f fo b rs ws k ∗ Run (tT d i) Ow W)
      ⊢ iprop((iprop(Free (tT d i) b rs ws ∗ TJob d i X O f fo k ∗ Run (tT d i) Ow W)
            -∗ wp frame (wpE defs₀ Variants.none (tT d i) none) Set.univ (r ⟨⟩) Q)
        -∗ wp frame (wpE defs₀ Variants.none (tT d i) none) Set.univ (tDrain i O b hb ws >>= r) Q) :=
  wp_retire

/-- A tile's body: every job comes back done. -/
theorem wp_tileProg {b0 b1 b2 : Memref sig .scVector .vmem S64x512 .f32} {h0 : b0.IsWhole} {h1 : b1.IsWhole} {h2 : b2.IsWhole}
    {rs0 rs1 rs2 ws0 ws1 ws2 : DmaSems sig S_} {G : Buf (Elt F) (O.view.loc (tT d i))} (hG : ∀ k, TAgree d i X O f G k) :
    iprop((Free (tT d i) b0 rs0 ws0 ∗ Free (tT d i) b1 rs1 ws1 ∗ Free (tT d i) b2 rs2 ws2)
        ∗ bigSep Finset.univ (TJob d i X O f fo) ∗ Run (tT d i) Ow W)
      ⊢ iprop((iprop((Free (tT d i) b0 rs0 ws0 ∗ Free (tT d i) b1 rs1 ws1 ∗ Free (tT d i) b2 rs2 ws2)
            ∗ bigSep Finset.univ (TJob d i X O f G) ∗ Run (tT d i) Ow W)
            -∗ wp frame (wpE defs₀ Variants.none (tT d i) none) Set.univ (r ⟨⟩) Q)
        -∗ wp frame (wpE defs₀ Variants.none (tT d i) none) Set.univ
          (tileProg i X O b0 h0 b1 h1 b2 h2 rs0 rs1 rs2 ws0 ws1 ws2 >>= r) Q) := by
  unfold tileProg
  simp only [bind_assoc]
  iintro ⟨⟨B0, B1, B2⟩, HJ, HR⟩ Hk
  ihave HJ := (Entails.of_eq (bigSep_four _)) $$ HJ
  icases HJ with ⟨J0, J1, J2, J3⟩
  iapply (wp_tIn 0) $$ [B0 J0]
  · isplitl [B0]; · iexact B0
    iexact J0
  iintro B0
  iapply (wp_tIn 1) $$ [B1 J1]
  · isplitl [B1]; · iexact B1
    iexact J1
  iintro B1
  iapply (wp_tIn 2) $$ [B2 J2]
  · isplitl [B2]; · iexact B2
    iexact J2
  iintro B2
  iapply (wp_tUse 0 (hG 0)) $$ [B0 HR]
  · isplitl [B0]; · iexact B0
    iexact HR
  iintro ⟨B0, HR⟩
  iapply (wp_tUse 1 (hG 1)) $$ [B1 HR]
  · isplitl [B1]; · iexact B1
    iexact HR
  iintro ⟨B1, HR⟩
  iapply (wp_tUse 2 (hG 2)) $$ [B2 HR]
  · isplitl [B2]; · iexact B2
    iexact HR
  iintro ⟨B2, HR⟩
  iapply (wp_tDrain 0) $$ [B0 HR]
  · isplitl [B0]; · iexact B0
    iexact HR
  iintro ⟨B0, J0, HR⟩
  iapply (wp_tIn 3) $$ [B0 J3]
  · isplitl [B0]; · iexact B0
    iexact J3
  iintro B0
  iapply (wp_tUse 3 (hG 3)) $$ [B0 HR]
  · isplitl [B0]; · iexact B0
    iexact HR
  iintro ⟨B0, HR⟩
  iapply (wp_tDrain 1) $$ [B1 HR]
  · isplitl [B1]; · iexact B1
    iexact HR
  iintro ⟨B1, J1, HR⟩
  iapply (wp_tDrain 2) $$ [B2 HR]
  · isplitl [B2]; · iexact B2
    iexact HR
  iintro ⟨B2, J2, HR⟩
  iapply (wp_tDrain 3) $$ [B0 HR]
  · isplitl [B0]; · iexact B0
    iexact HR
  iintro ⟨B0, J3, HR⟩
  iapply Hk
  isplitl [B0 B1 B2]
  · isplitl [B0]; · iexact B0
    isplitl [B1]; · iexact B1
    iexact B2
  isplitr [HR]
  · iapply (Entails.of_eq (bigSep_four (TJob d i X O f G)).symm)
    isplitl [J0]; · iexact J0
    isplitl [J1]; · iexact J1
    isplitl [J2]; · iexact J2
    iexact J3
  · iexact HR

end Tile

/-! ## The sequencers' body -/

section Seq
variable (d : Dev nD) (i : grid1.Coords)

/-- The thread of the sequencer at the coordinate `i`. -/
abbrev sT : Thread nD τ := (d, seqProc i)

variable (X : Memref sig .scScalar .hbm S162x64x512 .f32) (O : Memref sig .scScalar .hbm S642x64x512 .f32)
variable (f : Buf (Elt F) (X.view.loc (sT d i))) (fo : Buf (Elt F) (O.view.loc (sT d i)))

/-- A sequencer's job `k`. -/
def SJob (k : Fin 16) : sProp 𝕄 :=
  Job (sT d i) X O (k1_off1 i (BitVec.ofNat 32 k.val)) (k1_off1_inb i k)
    (fun t => k1_off2 i (BitVec.ofNat 32 k.val) (BitVec.ofNat 32 t.val)) (fun t => k1_off2_inb i k t) f fo

/-- A sequencer's job `k` with its row on its way into a buffer. -/
def STaken (b : Memref sig .scScalar .shared S64x512 .f32) (rs ws : DmaSems sig S_) (k : Fin 16) : sProp 𝕄 :=
  Taken (sT d i) b rs ws X O (k1_off1 i (BitVec.ofNat 32 k.val)) (k1_off1_inb i k)
    (fun t => k1_off2 i (BitVec.ofNat 32 k.val) (BitVec.ofNat 32 t.val)) (fun t => k1_off2_inb i k t) f fo

/-- A sequencer's job `k` with its copies on their way. -/
def SBusy (b : Memref sig .scScalar .shared S64x512 .f32) (rs ws : DmaSems sig S_) (k : Fin 16) : sProp 𝕄 :=
  Busy (sT d i) b rs ws X O (k1_off1 i (BitVec.ofNat 32 k.val)) (k1_off1_inb i k)
    (fun t => k1_off2 i (BitVec.ofNat 32 k.val) (BitVec.ofNat 32 t.val)) (fun t => k1_off2_inb i k t) f fo

/-- The input's row 160 with its two rows of the result. -/
def LastJob : sProp 𝕄 :=
  iprop(inPt (sT d i) X ![160, 0, 0] inb_S162x64x512_S1x64x512_160_0_0 f
    ∗ outPt (sT d i) O ![640, 0, 0] inb_S642x64x512_S1x64x512_640_0_0 fo
    ∗ outPt (sT d i) O ![641, 0, 0] inb_S642x64x512_S1x64x512_641_0_0 fo)

/-- The last job, where the sequencer is the second one. -/
def SLast : sProp 𝕄 := if (i 0).val = 1 then LastJob d i X O f fo else iprop(emp)

/-- What is to be left on the rows of job `k` is what its input row reads. -/
def SAgree (G : Buf (Elt F) (O.view.loc (sT d i))) (k : Fin 16) : Prop :=
  ∀ t : Fin 4, outVal (sT d i) O (k1_off2 i (BitVec.ofNat 32 k.val) (BitVec.ofNat 32 t.val)) (k1_off2_inb i k t) G
    = inVal (sT d i) X (k1_off1 i (BitVec.ofNat 32 k.val)) (k1_off1_inb i k) f

/-- The same of the last job. -/
def SAgreeLast (G : Buf (Elt F) (O.view.loc (sT d i))) : Prop :=
  outVal (sT d i) O ![640, 0, 0] inb_S642x64x512_S1x64x512_640_0_0 G = inVal (sT d i) X ![160, 0, 0] inb_S162x64x512_S1x64x512_160_0_0 f
    ∧ outVal (sT d i) O ![641, 0, 0] inb_S642x64x512_S1x64x512_641_0_0 G = inVal (sT d i) X ![160, 0, 0] inb_S162x64x512_S1x64x512_160_0_0 f

variable {d i X O f fo}
variable {Q : PUnit → sProp (MT nD τ sig (HIx 1) (Elt F) ℕ UU ℕ)} {r : PUnit → Prog (TpuEff nD τ sig (Elt F) Λ₀ (seqProc i)) PUnit}
variable {Ow : CellTallies nD τ sig (HIx 1)} {W : Waits sig (HIx 1)}
variable {b : Memref sig .scScalar .shared S64x512 .f32} {hb : b.IsWhole} {rs ws : DmaSems sig S_}

theorem wp_sIn (k : Fin 16) :
    iprop(Free (sT d i) b rs ws ∗ SJob d i X O f fo k)
      ⊢ iprop((STaken d i X O f fo b rs ws k -∗ wp frame (wpE defs₀ Variants.none (sT d i) none) Set.univ (r ⟨⟩) Q)
        -∗ wp frame (wpE defs₀ Variants.none (sT d i) none) Set.univ (sIn i X k b hb rs >>= r) Q) :=
  wp_take

theorem wp_sUse (k : Fin 16) {G : Buf (Elt F) (O.view.loc (sT d i))} (hG : SAgree d i X O f G k) :
    iprop(STaken d i X O f fo b rs ws k ∗ Run (sT d i) Ow W)
      ⊢ iprop((iprop(SBusy d i X O f G b rs ws k ∗ Run (sT d i) Ow W)
            -∗ wp frame (wpE defs₀ Variants.none (sT d i) none) Set.univ (r ⟨⟩) Q)
        -∗ wp frame (wpE defs₀ Variants.none (sT d i) none) Set.univ (sUse i X O k b hb rs ws >>= r) Q) := by
  unfold sUse
  simp only [bind_assoc]
  exact wp_use (c := sT d i) hG

theorem wp_sDrain (k : Fin 16) :
    iprop(SBusy d i X O f fo b rs ws k ∗ Run (sT d i) Ow W)
      ⊢ iprop((iprop(Free (sT d i) b rs ws ∗ SJob d i X O f fo k ∗ Run (sT d i) Ow W)
            -∗ wp frame (wpE defs₀ Variants.none (sT d i) none) Set.univ (r ⟨⟩) Q)
        -∗ wp frame (wpE defs₀ Variants.none (sT d i) none) Set.univ (sDrain i O b hb ws >>= r) Q) :=
  wp_retire

theorem wp_sTurn (k' k : Fin 16) {G : Buf (Elt F) (O.view.loc (sT d i))} (hG : SAgree d i X O f G k) :
    iprop(SBusy d i X O f G b rs ws k' ∗ SJob d i X O f fo k ∗ Run (sT d i) Ow W)
      ⊢ iprop((iprop(SBusy d i X O f G b rs ws k ∗ SJob d i X O f G k' ∗ Run (sT d i) Ow W)
            -∗ wp frame (wpE defs₀ Variants.none (sT d i) none) Set.univ (r ⟨⟩) Q)
        -∗ wp frame (wpE defs₀ Variants.none (sT d i) none) Set.univ (sTurn i X O k b hb rs ws >>= r) Q) := by
  unfold sTurn
  simp only [bind_assoc]
  iintro ⟨HB, HJ, HR⟩ Hk
  iapply (wp_sDrain k') $$ [HB HR]
  · isplitl [HB]; · iexact HB
    iexact HR
  iintro ⟨HB, HJ', HR⟩
  iapply (wp_sIn k) $$ [HB HJ]
  · isplitl [HB]; · iexact HB
    iexact HJ
  iintro HB
  iapply (wp_sUse k hG) $$ [HB HR]
  · isplitl [HB]; · iexact HB
    iexact HR
  iintro ⟨HB, HR⟩
  iapply Hk
  isplitl [HB]; · iexact HB
  isplitl [HJ']; · iexact HJ'
  iexact HR

theorem wp_sLast (k' : Fin 16) {G : Buf (Elt F) (O.view.loc (sT d i))} (hG : SAgreeLast d i X O f G) :
    iprop(SBusy d i X O f G b rs ws k' ∗ LastJob d i X O f fo ∗ Run (sT d i) Ow W)
      ⊢ iprop((iprop(Free (sT d i) b rs ws ∗ SJob d i X O f G k' ∗ LastJob d i X O f G ∗ Run (sT d i) Ow W)
            -∗ wp frame (wpE defs₀ Variants.none (sT d i) none) Set.univ (r ⟨⟩) Q)
        -∗ wp frame (wpE defs₀ Variants.none (sT d i) none) Set.univ (sLast i X O b hb rs ws >>= r) Q) := by
  have hG' : ∀ t : Fin 2, outVal (sT d i) O (![![640, 0, 0], ![641, 0, 0]] t)
      ((Fin.forall_fin_two.mpr ⟨inb_S642x64x512_S1x64x512_640_0_0, inb_S642x64x512_S1x64x512_641_0_0⟩ :
        ∀ (t : Fin 2) (a : Fin 3), (![![640, 0, 0], ![641, 0, 0]] : Fin 2 → Fin 3 → Nat) t a + S1x64x512.size a ≤ S642x64x512.size a) t) G
      = inVal (sT d i) X ![160, 0, 0] inb_S162x64x512_S1x64x512_160_0_0 f := Fin.forall_fin_two.mpr hG
  unfold sLast LastJob
  simp only [bind_assoc]
  iintro ⟨HB, ⟨Hx, O0, O1⟩, HR⟩ Hk
  iapply (wp_sDrain k') $$ [HB HR]
  · isplitl [HB]; · iexact HB
    iexact HR
  iintro ⟨HB, HJ, HR⟩
  iapply (wp_startIn (c := sT d i) (f := f)) $$ [HB Hx]
  · isplitl [HB]; · iexact HB
    iexact Hx
  iintro HB
  iapply (wp_waitIn (c := sT d i)) $$ [HB HR]
  · isplitl [HB]; · iexact HB
    iexact HR
  iintro ⟨HB, Hx, HR⟩
  iapply (wp_pair (c := sT d i) (f := fo) hG') $$ [HB O0 O1 HR]
  · isplitl [HB]; · iexact HB
    isplitl [O0]; · iexact O0
    isplitl [O1]; · iexact O1
    iexact HR
  iintro ⟨HB, O0, O1, HR⟩
  iapply Hk
  isplitl [HB]; · iexact HB
  isplitl [HJ]; · iexact HJ
  isplitl [Hx O0 O1]
  · isplitl [Hx]; · iexact Hx
    isplitl [O0]; · iexact O0
    iexact O1
  · iexact HR

theorem isSecond_iff : isSecond i = 1#1 ↔ (i 0).val = 1 := by
  have h : ∀ x : Fin 2, (Scalar.cmpi .ne (Scalar.extui (Scalar.cmpi .eq (BitVec.ofNat 32 x.val) 1#32 : BitVec 1) : BitVec 32) 0#32 : BitVec 1) = 1#1
      ↔ x.val = 1 := by decide
  exact h (i 0)

theorem notSecond_iff : notSecond i = 1#1 ↔ ¬ (i 0).val = 1 := by
  have h : ∀ x : Fin 2, (Scalar.cmpi .ne (Scalar.extui (Scalar.cmpi .ne (BitVec.ofNat 32 x.val) 1#32 : BitVec 1) : BitVec 32) 0#32 : BitVec 1) = 1#1
      ↔ ¬ x.val = 1 := by decide
  exact h (i 0)

theorem wp_seqChoice (k' : Fin 16) {G : Buf (Elt F) (O.view.loc (sT d i))} (hG : SAgreeLast d i X O f G)
    {rest : Prog (TpuEff nD τ sig (Elt F) Λ₀ (seqProc i)) PUnit} :
    iprop(SBusy d i X O f G b rs ws k' ∗ SLast d i X O f fo ∗ Run (sT d i) Ow W)
      ⊢ iprop((iprop(Free (sT d i) b rs ws ∗ SJob d i X O f G k' ∗ SLast d i X O f G ∗ Run (sT d i) Ow W)
            -∗ wp frame (wpE defs₀ Variants.none (sT d i) none) Set.univ (rest >>= r) Q)
        -∗ wp frame (wpE defs₀ Variants.none (sT d i) none) Set.univ (seqChoice i X O b hb rs ws rest >>= r) Q) := by
  unfold seqChoice SLast
  by_cases h : (i 0).val = 1
  · rw [dif_pos (isSecond_iff.mpr h), dif_neg (fun e => notSecond_iff.mp e h), if_pos h, if_pos h]
    simp only [bind_assoc, pure_bind]
    exact wp_sLast (r := fun _ => rest >>= r) k' hG
  · rw [dif_neg (fun e => h (isSecond_iff.mp e)), dif_pos (notSecond_iff.mpr h), if_neg h, if_neg h]
    simp only [bind_assoc, pure_bind]
    iintro ⟨HB, -, HR⟩ Hk
    iapply (wp_sDrain k') $$ [HB HR]
    · isplitl [HB]; · iexact HB
      iexact HR
    iintro ⟨HB, HJ, HR⟩
    iapply Hk
    isplitl [HB]; · iexact HB
    isplitl [HJ]; · iexact HJ
    isplitr [HR]; · iempintro
    iexact HR

omit [FloatOps F] in
theorem bigSep_sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A sequencer's body: every job comes back done. -/
theorem wp_seqProg {b0 b1 b2 b3 : Memref sig .scScalar .shared S64x512 .f32} {h0 : b0.IsWhole} {h1 : b1.IsWhole} {h2 : b2.IsWhole} {h3 : b3.IsWhole}
    {rs0 rs1 rs2 rs3 ws0 ws1 ws2 ws3 : DmaSems sig S_} {G : Buf (Elt F) (O.view.loc (sT d i))} (hG : ∀ k, SAgree d i X O f G k)
    (hL : SAgreeLast d i X O f G) :
    iprop((Free (sT d i) b0 rs0 ws0 ∗ Free (sT d i) b1 rs1 ws1 ∗ Free (sT d i) b2 rs2 ws2 ∗ Free (sT d i) b3 rs3 ws3)
        ∗ (bigSep Finset.univ (SJob d i X O f fo) ∗ SLast d i X O f fo) ∗ Run (sT d i) Ow W)
      ⊢ iprop((iprop((Free (sT d i) b0 rs0 ws0 ∗ Free (sT d i) b1 rs1 ws1 ∗ Free (sT d i) b2 rs2 ws2 ∗ Free (sT d i) b3 rs3 ws3)
            ∗ (bigSep Finset.univ (SJob d i X O f G) ∗ SLast d i X O f G) ∗ Run (sT d i) Ow W)
            -∗ wp frame (wpE defs₀ Variants.none (sT d i) none) Set.univ (r ⟨⟩) Q)
        -∗ wp frame (wpE defs₀ Variants.none (sT d i) none) Set.univ
          (seqProg i X O b0 h0 b1 h1 b2 h2 b3 h3 rs0 rs1 rs2 rs3 ws0 ws1 ws2 ws3 >>= r) Q) := by
  have hend : ∀ (k : PUnit → Prog (TpuEff nD τ sig (Elt F) Λ₀ (seqProc i)) PUnit),
      seqEnd i X O b0 h0 b1 h1 b2 h2 b3 h3 rs0 ws0 ws1 ws2 ws3 >>= k
        = seqChoice i X O b0 h0 rs0 ws0 (sDrain i O b1 h1 ws1) >>= fun _ => sDrain i O b2 h2 ws2 >>= fun _ => sDrain i O b3 h3 ws3 >>= k := by
    intro k
    unfold seqEnd
    rw [show sDrain (F := F) i O b3 h3 ws3 = drain4 (p := seqProc i) O b3 h3 ws3 from rfl]
    unfold drain4
    simp only [bind_assoc]
  unfold seqProg
  simp only [bind_assoc, hend]
  iintro ⟨⟨B0, B1, B2, B3⟩, ⟨HJ, HL⟩, HR⟩ Hk
  ihave HJ := (Entails.of_eq (bigSep_sixteen _)) $$ HJ
  icases HJ with ⟨J0, J1, J2, J3, J4, J5, J6, J7, J8, J9, J10, J11, J12, J13, J14, J15⟩
  iapply (wp_sIn 0) $$ [B0 J0]
  · isplitl [B0]; · iexact B0
    iexact J0
  iintro B0
  iapply (wp_sIn 1) $$ [B1 J1]
  · isplitl [B1]; · iexact B1
    iexact J1
  iintro B1
  iapply (wp_sIn 2) $$ [B2 J2]
  · isplitl [B2]; · iexact B2
    iexact J2
  iintro B2
  iapply (wp_sIn 3) $$ [B3 J3]
  · isplitl [B3]; · iexact B3
    iexact J3
  iintro B3
  iapply (wp_sUse 0 (hG 0)) $$ [B0 HR]
  · isplitl [B0]; · iexact B0
    iexact HR
  iintro ⟨B0, HR⟩
  iapply (wp_sUse 1 (hG 1)) $$ [B1 HR]
  · isplitl [B1]; · iexact B1
    iexact HR
  iintro ⟨B1, HR⟩
  iapply (wp_sUse 2 (hG 2)) $$ [B2 HR]
  · isplitl [B2]; · iexact B2
    iexact HR
  iintro ⟨B2, HR⟩
  iapply (wp_sUse 3 (hG 3)) $$ [B3 HR]
  · isplitl [B3]; · iexact B3
    iexact HR
  iintro ⟨B3, HR⟩
  iapply (wp_sTurn 0 4 (hG 4)) $$ [B0 J4 HR]
  · isplitl [B0]; · iexact B0
    isplitl [J4]; · iexact J4
    iexact HR
  iintro ⟨B0, J0, HR⟩
  iapply (wp_sTurn 1 5 (hG 5)) $$ [B1 J5 HR]
  · isplitl [B1]; · iexact B1
    isplitl [J5]; · iexact J5
    iexact HR
  iintro ⟨B1, J1, HR⟩
  iapply (wp_sTurn 2 6 (hG 6)) $$ [B2 J6 HR]
  · isplitl [B2]; · iexact B2
    isplitl [J6]; · iexact J6
    iexact HR
  iintro ⟨B2, J2, HR⟩
  iapply (wp_sTurn 3 7 (hG 7)) $$ [B3 J7 HR]
  · isplitl [B3]; · iexact B3
    isplitl [J7]; · iexact J7
    iexact HR
  iintro ⟨B3, J3, HR⟩
  iapply (wp_sTurn 4 8 (hG 8)) $$ [B0 J8 HR]
  · isplitl [B0]; · iexact B0
    isplitl [J8]; · iexact J8
    iexact HR
  iintro ⟨B0, J4, HR⟩
  iapply (wp_sTurn 5 9 (hG 9)) $$ [B1 J9 HR]
  · isplitl [B1]; · iexact B1
    isplitl [J9]; · iexact J9
    iexact HR
  iintro ⟨B1, J5, HR⟩
  iapply (wp_sTurn 6 10 (hG 10)) $$ [B2 J10 HR]
  · isplitl [B2]; · iexact B2
    isplitl [J10]; · iexact J10
    iexact HR
  iintro ⟨B2, J6, HR⟩
  iapply (wp_sTurn 7 11 (hG 11)) $$ [B3 J11 HR]
  · isplitl [B3]; · iexact B3
    isplitl [J11]; · iexact J11
    iexact HR
  iintro ⟨B3, J7, HR⟩
  iapply (wp_sTurn 8 12 (hG 12)) $$ [B0 J12 HR]
  · isplitl [B0]; · iexact B0
    isplitl [J12]; · iexact J12
    iexact HR
  iintro ⟨B0, J8, HR⟩
  iapply (wp_sTurn 9 13 (hG 13)) $$ [B1 J13 HR]
  · isplitl [B1]; · iexact B1
    isplitl [J13]; · iexact J13
    iexact HR
  iintro ⟨B1, J9, HR⟩
  iapply (wp_sTurn 10 14 (hG 14)) $$ [B2 J14 HR]
  · isplitl [B2]; · iexact B2
    isplitl [J14]; · iexact J14
    iexact HR
  iintro ⟨B2, J10, HR⟩
  iapply (wp_sTurn 11 15 (hG 15)) $$ [B3 J15 HR]
  · isplitl [B3]; · iexact B3
    isplitl [J15]; · iexact J15
    iexact HR
  iintro ⟨B3, J11, HR⟩
  iapply (wp_seqChoice 12 hL) $$ [B0 HL HR]
  · isplitl [B0]; · iexact B0
    isplitl [HL]; · iexact HL
    iexact HR
  iintro ⟨B0, J12, HL, HR⟩
  iapply (wp_sDrain 13) $$ [B1 HR]
  · isplitl [B1]; · iexact B1
    iexact HR
  iintro ⟨B1, J13, HR⟩
  iapply (wp_sDrain 14) $$ [B2 HR]
  · isplitl [B2]; · iexact B2
    iexact HR
  iintro ⟨B2, J14, HR⟩
  iapply (wp_sDrain 15) $$ [B3 HR]
  · isplitl [B3]; · iexact B3
    iexact HR
  iintro ⟨B3, J15, HR⟩
  iapply Hk
  isplitl [B0 B1 B2 B3]
  · isplitl [B0]; · iexact B0
    isplitl [B1]; · iexact B1
    isplitl [B2]; · iexact B2
    iexact B3
  isplitr [HR]
  · isplitr [HL]
    · iapply (Entails.of_eq (bigSep_sixteen (SJob d i X O f G)).symm)
      isplitl [J0]; · iexact J0
      isplitl [J1]; · iexact J1
      isplitl [J2]; · iexact J2
      isplitl [J3]; · iexact J3
      isplitl [J4]; · iexact J4
      isplitl [J5]; · iexact J5
      isplitl [J6]; · iexact J6
      isplitl [J7]; · iexact J7
      isplitl [J8]; · iexact J8
      isplitl [J9]; · iexact J9
      isplitl [J10]; · iexact J10
      isplitl [J11]; · iexact J11
      isplitl [J12]; · iexact J12
      isplitl [J13]; · iexact J13
      isplitl [J14]; · iexact J14
      iexact J15
    · iexact HL
  · iexact HR

end Seq

end Cert.Proof.Copy

end
-- ==== Proof.Copy.Rows.lean ====
module

public import proofs.«01_k».proof.Proof.Copy.Bodies

@[expose] public section

/-! # The rows of the two arrays

The input of the launch is 162 rows and its result 642. Row `r` of the result is to hold row `r / 4` of the
input. Here the rows the bodies copy, at the offsets they compute, are named by their numbers; the two
arrays are cut into the jobs the bodies are given, each job of exactly one body; and the value a job is to
leave is that of one function of the whole input. -/

noncomputable section

namespace Cert.Proof.Copy

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Rows as sets of places -/

/-- An array of `n` rows of 64 × 512. -/
abbrev Tall (n : ℕ) : Shape := ⟨3, ![n, 64, 512]⟩

/-- The places of row `p`. -/
def rowSet (n p : ℕ) : Finset (Tall n).Idx := Finset.univ.filter fun i => (i 0).val = p

theorem rowSet_unit {n p : ℕ} {off : Fin 3 → ℕ} (e : off = ![p, 0, 0])
    (h : ∀ a, off a + S1x64x512.size a ≤ (Tall n).size a) :
    (Rect.unit (s := Tall n) off S1x64x512.size h).set = rowSet n p := by
  subst e
  ext i
  rw [Rect.mem_set_unit]
  unfold rowSet
  rw [Finset.mem_filter]
  have h1 : (i 1).val < 64 := (i 1).isLt
  have h2 : (i 2).val < 512 := (i 2).isLt
  constructor
  · intro H
    have := H 0
    simp only [Matrix.cons_val_zero] at this
    exact ⟨Finset.mem_univ _, by omega⟩
  · rintro ⟨-, H⟩ a
    match a with
    | 0 => simp only [Matrix.cons_val_zero]; omega
    | 1 => simpa using h1
    | 2 => simpa using h2

theorem rowSet_disjoint {n p q : ℕ} (h : p ≠ q) : Disjoint (rowSet n p) (rowSet n q) := by
  unfold rowSet
  rw [Finset.disjoint_filter]
  intro i _ hp hq
  exact h (hp.symm.trans hq)

theorem rowSet_cover (n : ℕ) : (Finset.univ : Finset (Fin n)).biUnion (fun p => rowSet n p.val) = Finset.univ := by
  ext i
  simp only [Finset.mem_biUnion, Finset.mem_univ, true_and, iff_true]
  exact ⟨i 0, by unfold rowSet; rw [Finset.mem_filter]; exact ⟨Finset.mem_univ _, rfl⟩⟩

/-! ## The arrays -/

abbrev xLoc (d : Dev nD) : Loc nD τ sig := (SparseCore.T d).loc main_v0
abbrev yLoc (d : Dev nD) : Loc nD τ sig := (SparseCore.T d).loc main_v1

/-- Row `p` of the input. -/
def xRow (d : Dev nD) (f : Buf (Elt F) (xLoc d)) (p : ℕ) : sProp 𝕄 := (xLoc d ↦[rowSet 162 p]{fullShare} f)
/-- Row `r` of the result. -/
def yRow (d : Dev nD) (f : Buf (Elt F) (yLoc d)) (r : ℕ) : sProp 𝕄 := (yLoc d ↦[rowSet 642 r]{fullShare} f)

omit [FloatOps F] in
theorem xRows (d : Dev nD) (f : Buf (Elt F) (xLoc d)) :
    (xLoc d ↦{fullShare} f : sProp 𝕄) = bigSep Finset.univ fun p : Fin 162 => xRow d f p.val := by
  unfold xRow
  rw [← pointsTo_biUnion Finset.univ (ℓ := xLoc d) (fun p : Fin 162 => rowSet 162 p.val)
    (fun p _ q _ h => rowSet_disjoint fun e => h (Fin.ext e)), rowSet_cover]
  try rfl
omit [FloatOps F] in
theorem yRows (d : Dev nD) (f : Buf (Elt F) (yLoc d)) :
    (yLoc d ↦{fullShare} f : sProp 𝕄) = bigSep Finset.univ fun r : Fin 642 => yRow d f r.val := by
  unfold yRow
  rw [← pointsTo_biUnion Finset.univ (ℓ := yLoc d) (fun r : Fin 642 => rowSet 642 r.val)
    (fun p _ q _ h => rowSet_disjoint fun e => h (Fin.ext e)), rowSet_cover]
  try rfl

/-! ## The rows a tile and a sequencer address -/

local notation "xV" => (Memref.whole Cert.KernelIdeal.main_v0_scv : Memref Cert.KernelIdeal.sig Kind.scVector Space.hbm Cert.KernelIdeal.S162x64x512 EltTy.f32)
local notation "yV" => (Memref.whole Cert.KernelIdeal.main_v1_scv : Memref Cert.KernelIdeal.sig Kind.scVector Space.hbm Cert.KernelIdeal.S642x64x512 EltTy.f32)
local notation "xS" => (Memref.whole Cert.KernelIdeal.main_v0_scs : Memref Cert.KernelIdeal.sig Kind.scScalar Space.hbm Cert.KernelIdeal.S162x64x512 EltTy.f32)
local notation "yS" => (Memref.whole Cert.KernelIdeal.main_v1_scs : Memref Cert.KernelIdeal.sig Kind.scScalar Space.hbm Cert.KernelIdeal.S642x64x512 EltTy.f32)

omit [FloatOps F] in
theorem inPt_tile (d : Dev nD) (i : grid0.Coords) {off : Fin 3 → ℕ} {p : ℕ} (e : off = ![p, 0, 0])
    (h : ∀ a, off a + S1x64x512.size a ≤ S162x64x512.size a) (f : Buf (Elt F) (xLoc d)) :
    inPt (F := F) (tT d i) xV off h f = xRow d f p := by
  have hs : (inRow xV off h).view.set = rowSet 162 p := by
    show (((xV).view.slice (Rect.unit (s := S162x64x512) off S1x64x512.size h)).reshape S64x512 squeezes_S1x64x512_S64x512.numel_eq).set = _
    rw [View.set_reshape]
    show ((View.whole (main_v0_scv : Ref sig .scVector)).slice (Rect.unit (s := S162x64x512) off S1x64x512.size h)).set = _
    rw [View.set_slice]
    exact Finset.map_refl.trans (rowSet_unit e h)
  unfold inPt xRow
  rw [hs]
  try rfl

omit [FloatOps F] in
theorem outPt_tile (d : Dev nD) (i : grid0.Coords) {off : Fin 3 → ℕ} {r : ℕ} (e : off = ![r, 0, 0])
    (h : ∀ a, off a + S1x64x512.size a ≤ S642x64x512.size a) (f : Buf (Elt F) (yLoc d)) :
    outPt (F := F) (tT d i) yV off h f = yRow d f r := by
  have hs : (outRow yV off h).view.set = rowSet 642 r := by
    show (((yV).view.slice (Rect.unit (s := S642x64x512) off S1x64x512.size h)).reshape S64x512 squeezes_S1x64x512_S64x512.numel_eq).set = _
    rw [View.set_reshape]
    show ((View.whole (main_v1_scv : Ref sig .scVector)).slice (Rect.unit (s := S642x64x512) off S1x64x512.size h)).set = _
    rw [View.set_slice]
    exact Finset.map_refl.trans (rowSet_unit e h)
  unfold outPt yRow
  rw [hs]
  try rfl

omit [FloatOps F] in
theorem inPt_seq (d : Dev nD) (i : grid1.Coords) {off : Fin 3 → ℕ} {p : ℕ} (e : off = ![p, 0, 0])
    (h : ∀ a, off a + S1x64x512.size a ≤ S162x64x512.size a) (f : Buf (Elt F) (xLoc d)) :
    inPt (F := F) (sT d i) xS off h f = xRow d f p := by
  have hs : (inRow xS off h).view.set = rowSet 162 p := by
    show (((xS).view.slice (Rect.unit (s := S162x64x512) off S1x64x512.size h)).reshape S64x512 squeezes_S1x64x512_S64x512.numel_eq).set = _
    rw [View.set_reshape]
    show ((View.whole (main_v0_scs : Ref sig .scScalar)).slice (Rect.unit (s := S162x64x512) off S1x64x512.size h)).set = _
    rw [View.set_slice]
    exact Finset.map_refl.trans (rowSet_unit e h)
  unfold inPt xRow
  rw [hs]
  try rfl

omit [FloatOps F] in
theorem outPt_seq (d : Dev nD) (i : grid1.Coords) {off : Fin 3 → ℕ} {r : ℕ} (e : off = ![r, 0, 0])
    (h : ∀ a, off a + S1x64x512.size a ≤ S642x64x512.size a) (f : Buf (Elt F) (yLoc d)) :
    outPt (F := F) (sT d i) yS off h f = yRow d f r := by
  have hs : (outRow yS off h).view.set = rowSet 642 r := by
    show (((yS).view.slice (Rect.unit (s := S642x64x512) off S1x64x512.size h)).reshape S64x512 squeezes_S1x64x512_S64x512.numel_eq).set = _
    rw [View.set_reshape]
    show ((View.whole (main_v1_scs : Ref sig .scScalar)).slice (Rect.unit (s := S642x64x512) off S1x64x512.size h)).set = _
    rw [View.set_slice]
    exact Finset.map_refl.trans (rowSet_unit e h)
  unfold outPt yRow
  rw [hs]
  try rfl

/-! ## What is to be left -/

/-- The place of the input whose value belongs at a place of the result. -/
def source (i : S642x64x512.Idx) : S162x64x512.Idx := fun
  | 0 => ⟨(i 0).val / 4, by have h : (i 0).val < 642 := (i 0).isLt; show _ < 162; omega⟩
  | 1 => i 1
  | 2 => i 2
  | ⟨_ + 3, h⟩ => absurd h (Nat.not_lt.2 (Nat.le_add_left _ _))

/-- The result of the launch on the input `f`. -/
def spread (d : Dev nD) (f : Buf (Elt F) (xLoc d)) : Buf (Elt F) (yLoc d) := fun i => (f (source i) : Elt F .f32)

theorem source_emb {off off' : Fin 3 → ℕ} {p r : ℕ} (e : off = ![p, 0, 0]) (e' : off' = ![r, 0, 0]) (hr : r / 4 = p)
    (h : ∀ a, off a + S1x64x512.size a ≤ S162x64x512.size a) (h' : ∀ a, off' a + S1x64x512.size a ≤ S642x64x512.size a)
    (z : S1x64x512.Idx) :
    source ((Rect.unit (s := S642x64x512) off' S1x64x512.size h').emb z) = (Rect.unit (s := S162x64x512) off S1x64x512.size h).emb z := by
  subst e e'
  have hz : (z 0).val = 0 := by have : (z 0).val < 1 := (z 0).isLt; omega
  funext a
  match a with
  | 0 =>
    apply Fin.ext
    show (r + 1 * (z 0).val) / 4 = p + 1 * (z 0).val
    omega
  | 1 => rfl
  | 2 => rfl

omit [FloatOps F] in
theorem agree_tile (d : Dev nD) (i : grid0.Coords) {off off' : Fin 3 → ℕ} {p r : ℕ} (e : off = ![p, 0, 0]) (e' : off' = ![r, 0, 0])
    (hr : r / 4 = p) (h : ∀ a, off a + S1x64x512.size a ≤ S162x64x512.size a) (h' : ∀ a, off' a + S1x64x512.size a ≤ S642x64x512.size a)
    (f : Buf (Elt F) (xLoc d)) :
    outVal (F := F) (tT d i) yV off' h' (spread d f) = inVal (F := F) (tT d i) xV off h f := by
  funext y
  exact congrArg (fun j : S162x64x512.Idx => (f j : Elt F .f32))
    (source_emb e e' hr h h' _)

omit [FloatOps F] in
theorem agree_seq (d : Dev nD) (i : grid1.Coords) {off off' : Fin 3 → ℕ} {p r : ℕ} (e : off = ![p, 0, 0]) (e' : off' = ![r, 0, 0])
    (hr : r / 4 = p) (h : ∀ a, off a + S1x64x512.size a ≤ S162x64x512.size a) (h' : ∀ a, off' a + S1x64x512.size a ≤ S642x64x512.size a)
    (f : Buf (Elt F) (xLoc d)) :
    outVal (F := F) (sT d i) yS off' h' (spread d f) = inVal (F := F) (sT d i) xS off h f := by
  funext y
  exact congrArg (fun j : S162x64x512.Idx => (f j : Elt F .f32))
    (source_emb e e' hr h h' _)

end Cert.Proof.Copy

end
-- ==== Proof.Copy.Jobs.lean ====
module

public import proofs.«01_k».proof.Proof.Copy.Rows

@[expose] public section

/-! # The jobs, dealt

Tile `s` of SparseCore `c` has the four input rows from `4 * (2 * s + c)` on, sequencer `c` the sixteen from
`128 + 16 * c` on, and sequencer 1 row 160 besides; row 161 is nobody's. -/

noncomputable section

namespace Cert.Proof.Copy

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S162x64x512 EltTy.f32)
local notation "yV" => (Memref.whole Cert.KernelIdeal.main_v1_scv : Memref Cert.KernelIdeal.sig Kind.scVector Space.hbm Cert.KernelIdeal.S642x64x512 EltTy.f32)
local notation "xS" => (Memref.whole Cert.KernelIdeal.main_v0_scs : Memref Cert.KernelIdeal.sig Kind.scScalar Space.hbm Cert.KernelIdeal.S162x64x512 EltTy.f32)
local notation "yS" => (Memref.whole Cert.KernelIdeal.main_v1_scs : Memref Cert.KernelIdeal.sig Kind.scScalar Space.hbm Cert.KernelIdeal.S642x64x512 EltTy.f32)

/-! ## The offsets the bodies compute -/

theorem tile_off1 (i : grid0.Coords) (k : Fin 4) :
    k0_off1 i (BitVec.ofNat 32 k.val) = ![4 * (2 * (i 1).val + (i 0).val) + k.val, 0, 0] := by
  have h0 : (i 0).val < 2 := (i 0).isLt
  have h1 : (i 1).val < 16 := (i 1).isLt
  have e : ((BitVec.ofNat 32 (i 1).val * 2#32 + BitVec.ofNat 32 (i 0).val) * 4#32 + BitVec.ofNat 32 k.val).toNat
      = 4 * (2 * (i 1).val + (i 0).val) + k.val := by
    simp only [BitVec.toNat_add, BitVec.toNat_mul, BitVec.toNat_ofNat]
    omega
  exact congrArg (fun n => ![n, 0, 0]) e

theorem tile_off2 (i : grid0.Coords) (k t : Fin 4) :
    k0_off2 i (BitVec.ofNat 32 k.val) (BitVec.ofNat 32 t.val) = ![4 * (4 * (2 * (i 1).val + (i 0).val) + k.val) + t.val, 0, 0] := by
  have h0 : (i 0).val < 2 := (i 0).isLt
  have h1 : (i 1).val < 16 := (i 1).isLt
  have e : (((BitVec.ofNat 32 (i 1).val * 2#32 + BitVec.ofNat 32 (i 0).val) * 4#32 + BitVec.ofNat 32 k.val) * 4#32 + BitVec.ofNat 32 t.val).toNat
      = 4 * (4 * (2 * (i 1).val + (i 0).val) + k.val) + t.val := by
    simp only [BitVec.toNat_add, BitVec.toNat_mul, BitVec.toNat_ofNat]
    omega
  exact congrArg (fun n => ![n, 0, 0]) e

theorem seq_off1 (i : grid1.Coords) (k : Fin 16) :
    k1_off1 i (BitVec.ofNat 32 k.val) = ![128 + 16 * (i 0).val + k.val, 0, 0] := by
  have h0 : (i 0).val < 2 := (i 0).isLt
  have e : (128#32 + BitVec.ofNat 32 (i 0).val * 16#32 + BitVec.ofNat 32 k.val).toNat = 128 + 16 * (i 0).val + k.val := by
    simp only [BitVec.toNat_add, BitVec.toNat_mul, BitVec.toNat_ofNat]
    omega
  exact congrArg (fun n => ![n, 0, 0]) e

theorem seq_off2 (i : grid1.Coords) (k : Fin 16) (t : Fin 4) :
    k1_off2 i (BitVec.ofNat 32 k.val) (BitVec.ofNat 32 t.val) = ![4 * (128 + 16 * (i 0).val + k.val) + t.val, 0, 0] := by
  have h0 : (i 0).val < 2 := (i 0).isLt
  have e : ((128#32 + BitVec.ofNat 32 (i 0).val * 16#32 + BitVec.ofNat 32 k.val) * 4#32 + BitVec.ofNat 32 t.val).toNat
      = 4 * (128 + 16 * (i 0).val + k.val) + t.val := by
    simp only [BitVec.toNat_add, BitVec.toNat_mul, BitVec.toNat_ofNat]
    omega
  exact congrArg (fun n => ![n, 0, 0]) e

/-! ## Jobs by number -/

/-- Row `p` of the input, with the four rows of the result it goes to. -/
def piece (d : Dev nD) (f : Buf (Elt F) (xLoc d)) (g : Buf (Elt F) (yLoc d)) (p : ℕ) : sProp 𝕄 :=
  iprop(xRow d f p ∗ bigSep Finset.univ (fun t : Fin 4 => yRow d g (4 * p + t.val)))

/-- Row 160 of the input, with the two rows of the result it goes to. -/
def lastPiece (d : Dev nD) (f : Buf (Elt F) (xLoc d)) (g : Buf (Elt F) (yLoc d)) : sProp 𝕄 :=
  iprop(xRow d f 160 ∗ yRow d g 640 ∗ yRow d g 641)

/-- The jobs of tile `s` of SparseCore `c`. -/
def tileShare (d : Dev nD) (f : Buf (Elt F) (xLoc d)) (g : Buf (Elt F) (yLoc d)) (c s : ℕ) : sProp 𝕄 :=
  bigSep Finset.univ fun k : Fin 4 => piece d f g (4 * (2 * s + c) + k.val)

/-- The jobs of sequencer `c`. -/
def seqShare (d : Dev nD) (f : Buf (Elt F) (xLoc d)) (g : Buf (Elt F) (yLoc d)) (c : ℕ) : sProp 𝕄 :=
  iprop((bigSep Finset.univ fun k : Fin 16 => piece d f g (128 + 16 * c + k.val)) ∗ if c = 1 then lastPiece d f g else iprop(emp))

/-- The jobs of SparseCore `c`. -/
def coreShare (d : Dev nD) (f : Buf (Elt F) (xLoc d)) (g : Buf (Elt F) (yLoc d)) (c : ℕ) : sProp 𝕄 :=
  iprop((bigSep Finset.univ fun s : Fin 16 => tileShare d f g c s.val) ∗ seqShare d f g c)

omit [FloatOps F] in
theorem tJobs_eq (d : Dev nD) (i : grid0.Coords) (f : Buf (Elt F) (xLoc d)) (g : Buf (Elt F) (yLoc d)) :
    bigSep Finset.univ (TJob (F := F) d i xV yV f g) = tileShare d f g (i 0).val (i 1).val :=
  bigSep_congr fun k _ => by
    unfold TJob Job piece
    rw [inPt_tile d i (tile_off1 i k)]
    exact congrArg _ (bigSep_congr fun t _ => outPt_tile d i (tile_off2 i k t) _ g)

omit [FloatOps F] in
theorem sJobs_eq (d : Dev nD) (i : grid1.Coords) (f : Buf (Elt F) (xLoc d)) (g : Buf (Elt F) (yLoc d)) :
    iprop(bigSep Finset.univ (SJob (F := F) d i xS yS f g) ∗ SLast (F := F) d i xS yS f g) = seqShare d f g (i 0).val := by
  have h1 : bigSep Finset.univ (SJob (F := F) d i xS yS f g)
      = bigSep Finset.univ fun k : Fin 16 => piece d f g (128 + 16 * (i 0).val + k.val) :=
    bigSep_congr fun k _ => by
      unfold SJob Job piece
      rw [inPt_seq d i (seq_off1 i k)]
      exact congrArg _ (bigSep_congr fun t _ => outPt_seq d i (seq_off2 i k t) _ g)
  have h2 : LastJob (F := F) d i xS yS f g = lastPiece d f g := by
    unfold LastJob lastPiece
    rw [inPt_seq d i rfl, outPt_seq d i rfl, outPt_seq d i rfl]
  unfold SLast seqShare
  rw [h1, h2]

omit [FloatOps F] in
theorem tAgree (d : Dev nD) (i : grid0.Coords) (f : Buf (Elt F) (xLoc d)) (k : Fin 4) :
    TAgree (F := F) d i xV yV f (spread d f) k :=
  fun t => agree_tile d i (tile_off1 i k) (tile_off2 i k t) (by omega) _ _ f

omit [FloatOps F] in
theorem sAgree (d : Dev nD) (i : grid1.Coords) (f : Buf (Elt F) (xLoc d)) (k : Fin 16) :
    SAgree (F := F) d i xS yS f (spread d f) k :=
  fun t => agree_seq d i (seq_off1 i k) (seq_off2 i k t) (by omega) _ _ f

omit [FloatOps F] in
theorem sAgreeLast (d : Dev nD) (i : grid1.Coords) (f : Buf (Elt F) (xLoc d)) :
    SAgreeLast (F := F) d i xS yS f (spread d f) :=
  ⟨agree_seq d i rfl rfl (by norm_num) _ _ f, agree_seq d i rfl rfl (by norm_num) _ _ f⟩

/-! ## The arrays are the jobs -/

omit [FloatOps F] in
theorem eq_of_both {P Q : sProp 𝕄} (h : P ⊢ Q) (h' : Q ⊢ P) : P = Q := BI.Entails.antisymm h h'

omit [FloatOps F] in
theorem bigSep_either {A B : Type} [Fintype A] [Fintype B] (Φ : A ⊕ B → sProp 𝕄) :
    bigSep Finset.univ Φ = iprop(bigSep Finset.univ (fun a => Φ (.inl a)) ∗ bigSep Finset.univ fun b => Φ (.inr b)) := bigSep_univ_sum Φ

omit [FloatOps F] in
/-- A conjunction over the numbers below `n` is one over any type that counts them once each. -/
theorem bigSep_count {J : Type} [Fintype J] {n : ℕ} (g : J → ℕ) (hlt : ∀ j, g j < n) (hinj : Function.Injective g)
    (hcard : Fintype.card J = n) (Φ : ℕ → sProp 𝕄) :
    (bigSep Finset.univ fun r : Fin n => Φ r.val) = bigSep Finset.univ fun j => Φ (g j) := by
  have hb : Function.Bijective fun j => (⟨g j, hlt j⟩ : Fin n) :=
    (Fintype.bijective_iff_injective_and_card _).mpr ⟨fun a b e => hinj (Fin.mk.inj e), by rw [hcard, Fintype.card_fin]⟩
  exact bigSep_univ_equiv (Equiv.ofBijective _ hb) fun r : Fin n => Φ r.val

omit [FloatOps F] in
theorem bigSep_two_fin (Φ : Fin 2 → sProp 𝕄) : bigSep Finset.univ Φ = iprop(Φ 0 ∗ Φ 1) :=
  bigSep_univ_eq_bigSepL [0, 1] (by decide) (by decide) Φ

/-- Which input row: a tile's, by SparseCore, tile and job, or a sequencer's, by sequencer and job. -/
def rowOf : (Fin 2 × Fin 16 × Fin 4) ⊕ (Fin 2 × Fin 16) → ℕ
  | .inl (c, s, k) => 4 * (2 * s.val + c.val) + k.val
  | .inr (c, k) => 128 + 16 * c.val + k.val

theorem rowOf_injective : Function.Injective rowOf := by
  rintro (⟨c, s, k⟩ | ⟨c, k⟩) (⟨c', s', k'⟩ | ⟨c', k'⟩) e <;> simp only [rowOf] at e
  · obtain ⟨h1, h2, h3⟩ : c = c' ∧ s = s' ∧ k = k' := ⟨Fin.ext (by omega), Fin.ext (by omega), Fin.ext (by omega)⟩
    rw [h1, h2, h3]
  · omega
  · omega
  · obtain ⟨h1, h2⟩ : c = c' ∧ k = k' := ⟨Fin.ext (by omega), Fin.ext (by omega)⟩
    rw [h1, h2]

theorem rowOf_lt (j) : rowOf j < 160 := by
  rcases j with ⟨c, s, k⟩ | ⟨c, k⟩ <;> simp only [rowOf] <;> omega

omit [FloatOps F] in
/-- The jobs but the last, over both SparseCores. -/
theorem pieces_dealt (d : Dev nD) (f : Buf (Elt F) (xLoc d)) (g : Buf (Elt F) (yLoc d)) :
    iprop((bigSep Finset.univ fun p : Fin 160 => piece d f g p.val) ∗ lastPiece d f g)
      = bigSep Finset.univ fun c : Fin 2 => coreShare d f g c.val := by
  rw [bigSep_count rowOf rowOf_lt rowOf_injective (by simp) (fun p => piece d f g p), bigSep_either, bigSep_univ_prod, bigSep_univ_prod]
  simp only [bigSep_univ_prod]
  rw [bigSep_two_fin (fun c => coreShare d f g c.val), bigSep_two_fin, bigSep_two_fin]
  unfold coreShare seqShare tileShare
  rw [if_neg (show ¬ (0 : Fin 2).val = 1 by decide), if_pos (show (1 : Fin 2).val = 1 by decide)]
  refine eq_of_both ?_ ?_
  · iintro ⟨⟨⟨A0, A1⟩, B0, B1⟩, L⟩
    isplitl [A0 B0]
    · isplitl [A0]; · iexact A0
      isplitl [B0]; · iexact B0
      iempintro
    isplitl [A1]; · iexact A1
    isplitl [B1]; · iexact B1
    iexact L
  · iintro ⟨⟨A0, B0, -⟩, A1, B1, L⟩
    isplitr [L]
    · isplitl [A0 A1]
      · isplitl [A0]; · iexact A0
        iexact A1
      isplitl [B0]; · iexact B0
      iexact B1
    iexact L

/-- Which row of the result: one of the four of an input row, or one of the last two. -/
def outOf : (Fin 160 × Fin 4) ⊕ Fin 2 → ℕ
  | .inl (p, t) => 4 * p.val + t.val
  | .inr u => 640 + u.val

theorem outOf_injective : Function.Injective outOf := by
  rintro (⟨p, t⟩ | u) (⟨p', t'⟩ | u') e <;> simp only [outOf] at e
  · obtain ⟨h1, h2⟩ : p = p' ∧ t = t' := ⟨Fin.ext (by omega), Fin.ext (by omega)⟩
    rw [h1, h2]
  · omega
  · omega
  · rw [show u = u' from Fin.ext (by omega)]

theorem outOf_lt (j) : outOf j < 642 := by
  rcases j with ⟨p, t⟩ | u <;> simp only [outOf] <;> omega

/-- Which row of the input: one of the first 160, or one of the last two. -/
def inOf : Fin 160 ⊕ Fin 2 → ℕ
  | .inl p => p.val
  | .inr u => 160 + u.val

theorem inOf_injective : Function.Injective inOf := by
  rintro (p | u) (p' | u') e <;> simp only [inOf] at e
  · rw [show p = p' from Fin.ext e]
  · omega
  · omega
  · rw [show u = u' from Fin.ext (by omega)]

theorem inOf_lt (j) : inOf j < 162 := by
  rcases j with p | u <;> simp only [inOf] <;> omega

omit [FloatOps F] in
/-- Both arrays, whole, are the two SparseCores' jobs and the one input row nobody reads. -/
theorem arrays_dealt (d : Dev nD) (f : Buf (Elt F) (xLoc d)) (g : Buf (Elt F) (yLoc d)) :
    (iprop((xLoc d ↦{fullShare} f) ∗ (yLoc d ↦{fullShare} g)) : sProp 𝕄)
      = iprop((bigSep Finset.univ fun c : Fin 2 => coreShare d f g c.val) ∗ xRow d f 161) := by
  rw [xRows, yRows, bigSep_count inOf inOf_lt inOf_injective (by simp) (fun p => xRow d f p),
    bigSep_count outOf outOf_lt outOf_injective (by simp) (fun r => yRow d g r), bigSep_either, bigSep_either, bigSep_univ_prod,
    bigSep_two_fin, bigSep_two_fin, ← pieces_dealt]
  unfold piece lastPiece
  rw [bigSep_sep' Finset.univ (fun p : Fin 160 => xRow d f p.val) (fun p : Fin 160 => bigSep Finset.univ fun t : Fin 4 => yRow d g (4 * p.val + t.val))]
  refine eq_of_both ?_ ?_
  · iintro ⟨⟨X, X0, X1⟩, Y, Y0, Y1⟩
    isplitr [X1]
    · isplitl [X Y]
      · isplitl [X]; · iexact X
        iexact Y
      isplitl [X0]; · iexact X0
      isplitl [Y0]; · iexact Y0
      iexact Y1
    iexact X1
  · iintro ⟨⟨⟨X, Y⟩, X0, Y0, Y1⟩, X1⟩
    isplitl [X X0 X1]
    · isplitl [X]; · iexact X
      isplitl [X0]; · iexact X0
      iexact X1
    isplitl [Y]; · iexact Y
    isplitl [Y0]; · iexact Y0
    iexact Y1

end Cert.Proof.Copy

end
-- ==== Proof.Copy.Own.lean ====
module

public import proofs.«01_k».proof.Proof.Copy.Jobs

@[expose] public section

/-! # The buffers, out of what a processor owns

A processor enters its body with all its own buffers and all its own semaphores at zero. Its copy buffers,
each with its two semaphores, are taken out of these, and put back at the end. -/

noncomputable section

namespace Cert.Proof.Copy

open Cert.KernelIdeal Cert.KernelIdeal.Gen

open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

omit [FloatOps F] in
/-- What is held for each thing of `A`: for those numbered by `name`, number by number, and for the others. -/
theorem bigSep_numbered {N J : Type} [Fintype N] [DecidableEq N] [DecidableEq J] (name : N → J) (one : Function.Injective name) (A : Finset J) (within : ∀ n, name n ∈ A)
    (Φ : J → sProp 𝕄) :
    bigSep A Φ = iprop((bigSep Finset.univ fun n => Φ (name n)) ∗ bigSep (A \ Finset.univ.image name) Φ) := by
  have part : Finset.univ.image name ⊆ A := Finset.image_subset_iff.mpr fun n _ => within n
  rw [SparseCore.bigSep_sdiff_split' part, SparseCore.bigSep_image_of_injOn one.injOn]

/-! ## A tile's -/

/-- The tiles' three buffers, by number. -/
abbrev tBuf (n : Fin 3) : Ref sig .scVector := ![cc0_scratch0, cc0_scratch1, cc0_scratch2] n
/-- The tiles' six semaphores: three for the reads, three for the writes. -/
abbrev tSem (n : Fin 6) : SemLoc sig :=
  ![.dma cc0_scratch3.sem, .dma cc0_scratch4.sem, .dma cc0_scratch5.sem, .dma cc0_scratch6.sem, .dma cc0_scratch7.sem, .dma cc0_scratch8.sem] n

theorem tSem_injective : Function.Injective tSem := by decide
theorem tBuf_injective : Function.Injective tBuf := by decide

section Tile
variable (d : Dev nD) (i : grid0.Coords)

abbrev tRefs : Finset (DevRef τ sig) := Finset.univ.image fun n : Fin 3 => (tileProc i).devRef (tBuf n)
abbrev tCells : Finset (GSem nD τ sig) := Finset.univ.image fun n : Fin 6 => ((tT d i, tSem n) : GSem nD τ sig)

/-- What else a tile owns. -/
def tRest : sProp 𝕄 :=
  iprop((bigSep (ownRefs (tileProc i) \ tRefs i) fun b => iprop(∃ f, ((d, b) : Loc nD τ sig) ↦{fullShare} f))
    ∗ bigSep (ownCells (tT d i) \ tCells d i) fun g => semVal g 0)

omit [FloatOps F] in
theorem tBufs_eq : (ownBufs (tT d i) : sProp 𝕄)
    = iprop(((∃ f, (tT d i).loc cc0_scratch0 ↦{fullShare} f) ∗ (∃ f, (tT d i).loc cc0_scratch1 ↦{fullShare} f) ∗ ∃ f, (tT d i).loc cc0_scratch2 ↦{fullShare} f)
        ∗ bigSep (ownRefs (tileProc i) \ tRefs i) fun b => iprop(∃ f, ((d, b) : Loc nD τ sig) ↦{fullShare} f)) := by
  unfold ownBufs
  have h := bigSep_numbered (fun n : Fin 3 => (tileProc i).devRef (tBuf n)) (fun _ _ e => tBuf_injective (Proc.devRef_injective _ e)) (ownRefs (tileProc i))
    (fun n => SparseCore.Cfg.mem_ownRefs_of_owner (p := tileProc i) (b := (tileProc i).devRef (tBuf n)) (by revert n; exact fun n => match n with | 0 => rfl | 1 => rfl | 2 => rfl))
    (fun b => (iprop(∃ f, ((d, b) : Loc nD τ sig) ↦{fullShare} f) : sProp 𝕄))
  rw [bigSep_univ_eq_bigSepL [0, 1, 2] (by decide) (by decide)] at h
  exact h

omit [FloatOps F] in
theorem tSems_eq : (ownSems0 (tT d i) : sProp 𝕄)
    = iprop((semVal (tT d i, .dma cc0_scratch3.sem) 0 ∗ semVal (tT d i, .dma cc0_scratch4.sem) 0 ∗ semVal (tT d i, .dma cc0_scratch5.sem) 0
          ∗ semVal (tT d i, .dma cc0_scratch6.sem) 0 ∗ semVal (tT d i, .dma cc0_scratch7.sem) 0 ∗ semVal (tT d i, .dma cc0_scratch8.sem) 0)
        ∗ bigSep (ownCells (tT d i) \ tCells d i) fun g => semVal g 0) := by
  unfold ownSems0
  have h := bigSep_numbered (fun n : Fin 6 => ((tT d i, tSem n) : GSem nD τ sig)) (fun _ _ e => tSem_injective (Prod.mk.inj e).2) (ownCells (tT d i))
    (fun n => mem_ownCells.mpr ⟨rfl, by
      show (tSem n).isScoped .scVector = true
      revert n; decide⟩)
    (fun g => (semVal g 0 : sProp 𝕄))
  rw [bigSep_univ_eq_bigSepL [0, 1, 2, 3, 4, 5] (by decide) (by decide)] at h
  exact h

/-- The tile's three buffers, nothing under way on any. -/
def tFree : sProp 𝕄 :=
  iprop(Free (tT d i) (Memref.whole cc0_scratch0) cc0_scratch3 cc0_scratch6 ∗ Free (tT d i) (Memref.whole cc0_scratch1) cc0_scratch4 cc0_scratch7
    ∗ Free (tT d i) (Memref.whole cc0_scratch2) cc0_scratch5 cc0_scratch8)

omit [FloatOps F] in
theorem tOwn : iprop(ownBufs (tT d i) ∗ ownSems0 (tT d i)) = (iprop(tFree d i ∗ tRest d i) : sProp 𝕄) := by
  have hs0 : (Memref.whole cc0_scratch0 : Memref sig .scVector .vmem S64x512 .f32).view.set = Finset.univ := View.set_whole _
  have hs1 : (Memref.whole cc0_scratch1 : Memref sig .scVector .vmem S64x512 .f32).view.set = Finset.univ := View.set_whole _
  have hs2 : (Memref.whole cc0_scratch2 : Memref sig .scVector .vmem S64x512 .f32).view.set = Finset.univ := View.set_whole _
  rw [tBufs_eq, tSems_eq]
  unfold tFree tRest Free
  rw [hs0, hs1, hs2]
  refine eq_of_both ?_ ?_
  · iintro ⟨⟨⟨B0, B1, B2⟩, RB⟩, ⟨R0, R1, R2, W0, W1, W2⟩, RS⟩
    isplitr [RB RS]
    · isplitl [B0 R0 W0]
      · isplitl [B0]; · iexact B0
        isplitl [R0]; · iexact R0
        iexact W0
      isplitl [B1 R1 W1]
      · isplitl [B1]; · iexact B1
        isplitl [R1]; · iexact R1
        iexact W1
      · isplitl [B2]; · iexact B2
        isplitl [R2]; · iexact R2
        iexact W2
    · isplitl [RB]; · iexact RB
      iexact RS
  · iintro ⟨⟨⟨B0, R0, W0⟩, ⟨B1, R1, W1⟩, B2, R2, W2⟩, RB, RS⟩
    isplitl [B0 B1 B2 RB]
    · isplitr [RB]
      · isplitl [B0]; · iexact B0
        isplitl [B1]; · iexact B1
        iexact B2
      iexact RB
    isplitr [RS]
    · isplitl [R0]; · iexact R0
      isplitl [R1]; · iexact R1
      isplitl [R2]; · iexact R2
      isplitl [W0]; · iexact W0
      isplitl [W1]; · iexact W1
      iexact W2
    iexact RS

end Tile

/-! ## A sequencer's -/

/-- The sequencers' four buffers, by number. -/
abbrev sBuf (n : Fin 4) : Ref sig .scScalar := ![cc0_scratch9, cc0_scratch10, cc0_scratch11, cc0_scratch12] n
/-- The sequencers' eight semaphores: four for the reads, four for the writes. -/
abbrev sSem (n : Fin 8) : SemLoc sig :=
  ![.dma cc0_scratch13.sem, .dma cc0_scratch14.sem, .dma cc0_scratch15.sem, .dma cc0_scratch16.sem,
    .dma cc0_scratch17.sem, .dma cc0_scratch18.sem, .dma cc0_scratch19.sem, .dma cc0_scratch20.sem] n

theorem sSem_injective : Function.Injective sSem := by decide
theorem sBuf_injective : Function.Injective sBuf := by decide

section Seq
variable (d : Dev nD) (i : grid1.Coords)

abbrev sRefs : Finset (DevRef τ sig) := Finset.univ.image fun n : Fin 4 => (seqProc i).devRef (sBuf n)
abbrev sCells : Finset (GSem nD τ sig) := Finset.univ.image fun n : Fin 8 => ((sT d i, sSem n) : GSem nD τ sig)

/-- What else a sequencer owns. -/
def sRest : sProp 𝕄 :=
  iprop((bigSep (ownRefs (seqProc i) \ sRefs i) fun b => iprop(∃ f, ((d, b) : Loc nD τ sig) ↦{fullShare} f))
    ∗ bigSep (ownCells (sT d i) \ sCells d i) fun g => semVal g 0)

omit [FloatOps F] in
theorem sBufs_eq : (ownBufs (sT d i) : sProp 𝕄)
    = iprop(((∃ f, (sT d i).loc cc0_scratch9 ↦{fullShare} f) ∗ (∃ f, (sT d i).loc cc0_scratch10 ↦{fullShare} f)
          ∗ (∃ f, (sT d i).loc cc0_scratch11 ↦{fullShare} f) ∗ ∃ f, (sT d i).loc cc0_scratch12 ↦{fullShare} f)
        ∗ bigSep (ownRefs (seqProc i) \ sRefs i) fun b => iprop(∃ f, ((d, b) : Loc nD τ sig) ↦{fullShare} f)) := by
  unfold ownBufs
  have h := bigSep_numbered (fun n : Fin 4 => (seqProc i).devRef (sBuf n)) (fun _ _ e => sBuf_injective (Proc.devRef_injective _ e)) (ownRefs (seqProc i))
    (fun n => mem_ownRefs.mpr (by revert n; exact fun n => match n with | 0 => rfl | 1 => rfl | 2 => rfl | 3 => rfl))
    (fun b => (iprop(∃ f, ((d, b) : Loc nD τ sig) ↦{fullShare} f) : sProp 𝕄))
  rw [bigSep_univ_eq_bigSepL [0, 1, 2, 3] (by decide) (by decide)] at h
  exact h

omit [FloatOps F] in
theorem sSems_eq : (ownSems0 (sT d i) : sProp 𝕄)
    = iprop((semVal (sT d i, .dma cc0_scratch13.sem) 0 ∗ semVal (sT d i, .dma cc0_scratch14.sem) 0 ∗ semVal (sT d i, .dma cc0_scratch15.sem) 0
          ∗ semVal (sT d i, .dma cc0_scratch16.sem) 0 ∗ semVal (sT d i, .dma cc0_scratch17.sem) 0 ∗ semVal (sT d i, .dma cc0_scratch18.sem) 0
          ∗ semVal (sT d i, .dma cc0_scratch19.sem) 0 ∗ semVal (sT d i, .dma cc0_scratch20.sem) 0)
        ∗ bigSep (ownCells (sT d i) \ sCells d i) fun g => semVal g 0) := by
  unfold ownSems0
  have h := bigSep_numbered (fun n : Fin 8 => ((sT d i, sSem n) : GSem nD τ sig)) (fun _ _ e => sSem_injective (Prod.mk.inj e).2) (ownCells (sT d i))
    (fun n => mem_ownCells.mpr ⟨rfl, by
      show (sSem n).isScoped .scScalar = true
      revert n; decide⟩)
    (fun g => (semVal g 0 : sProp 𝕄))
  rw [bigSep_univ_eq_bigSepL [0, 1, 2, 3, 4, 5, 6, 7] (by decide) (by decide)] at h
  exact h

/-- The sequencer's four buffers, nothing under way on any. -/
def sFree : sProp 𝕄 :=
  iprop(Free (sT d i) (Memref.whole cc0_scratch9) cc0_scratch13 cc0_scratch17 ∗ Free (sT d i) (Memref.whole cc0_scratch10) cc0_scratch14 cc0_scratch18
    ∗ Free (sT d i) (Memref.whole cc0_scratch11) cc0_scratch15 cc0_scratch19 ∗ Free (sT d i) (Memref.whole cc0_scratch12) cc0_scratch16 cc0_scratch20)

omit [FloatOps F] in
theorem sOwn : iprop(ownBufs (sT d i) ∗ ownSems0 (sT d i)) = (iprop(sFree d i ∗ sRest d i) : sProp 𝕄) := by
  have hs0 : (Memref.whole cc0_scratch9 : Memref sig .scScalar .shared S64x512 .f32).view.set = Finset.univ := View.set_whole _
  have hs1 : (Memref.whole cc0_scratch10 : Memref sig .scScalar .shared S64x512 .f32).view.set = Finset.univ := View.set_whole _
  have hs2 : (Memref.whole cc0_scratch11 : Memref sig .scScalar .shared S64x512 .f32).view.set = Finset.univ := View.set_whole _
  have hs3 : (Memref.whole cc0_scratch12 : Memref sig .scScalar .shared S64x512 .f32).view.set = Finset.univ := View.set_whole _
  rw [sBufs_eq, sSems_eq]
  unfold sFree sRest Free
  rw [hs0, hs1, hs2, hs3]
  refine eq_of_both ?_ ?_
  · iintro ⟨⟨⟨B0, B1, B2, B3⟩, RB⟩, ⟨R0, R1, R2, R3, W0, W1, W2, W3⟩, RS⟩
    isplitr [RB RS]
    · isplitl [B0 R0 W0]
      · isplitl [B0]; · iexact B0
        isplitl [R0]; · iexact R0
        iexact W0
      isplitl [B1 R1 W1]
      · isplitl [B1]; · iexact B1
        isplitl [R1]; · iexact R1
        iexact W1
      isplitl [B2 R2 W2]
      · isplitl [B2]; · iexact B2
        isplitl [R2]; · iexact R2
        iexact W2
      · isplitl [B3]; · iexact B3
        isplitl [R3]; · iexact R3
        iexact W3
    · isplitl [RB]; · iexact RB
      iexact RS
  · iintro ⟨⟨⟨B0, R0, W0⟩, ⟨B1, R1, W1⟩, ⟨B2, R2, W2⟩, B3, R3, W3⟩, RB, RS⟩
    isplitl [B0 B1 B2 B3 RB]
    · isplitr [RB]
      · isplitl [B0]; · iexact B0
        isplitl [B1]; · iexact B1
        isplitl [B2]; · iexact B2
        iexact B3
      iexact RB
    isplitr [RS]
    · isplitl [R0]; · iexact R0
      isplitl [R1]; · iexact R1
      isplitl [R2]; · iexact R2
      isplitl [R3]; · iexact R3
      isplitl [W0]; · iexact W0
      isplitl [W1]; · iexact W1
      isplitl [W2]; · iexact W2
      iexact W3
    iexact RS

end Seq

end Cert.Proof.Copy

end
-- ==== Proof.Copy.Tasks.lean ====
module

public import proofs.«01_k».proof.Proof.Copy.Own

@[expose] public section

/-! # The two bodies, as the launch asks for them

What a tile and what a sequencer are handed when their bodies begin, and what they hand back: the rows of
the result at the values of the rows of the input they come from. -/

noncomputable section

namespace Cert.Proof.Copy

open Cert.KernelIdeal Cert.KernelIdeal.Gen

open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
/-- The tiles' side of the one call. -/
abbrev K : SparseCore.Cfg τ sig (ΛP (F := F)) 1 := (sc (F := F)).noSeq
/-- The sequencers' side of it. -/
abbrev σ : (q : Fin 1) → Option (Σ ℓ : (ΛP (F := F)).Label, (ΛP (F := F)).Args ℓ) := (sc (F := F)).seq
abbrev D [FloatOps F] : Defs nD τ sig (Elt F) (ΛP (F := F)) := Pipeline.defs pcfgs defs₀
abbrev 𝒱₀ : Variants := Variants.none
abbrev 𝒱 : Variants := 𝒱₀.lift
/-- The bound of the two bodies, and that of the dispatch, above it. -/
abbrev v₀ : 𝒱.V := Sum.inl none
abbrev vD : 𝒱.V := Sum.inr 0
theorem v₀_lt_vD : 𝒱.lt v₀ vD := Sum.Lex.sep _ _

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

local notation "xV" => (Memref.whole Cert.KernelIdeal.main_v0_scv : Memref Cert.KernelIdeal.sig Kind.scVector Space.hbm Cert.KernelIdeal.S162x64x512 EltTy.f32)
local notation "yV" => (Memref.whole Cert.KernelIdeal.main_v1_scv : Memref Cert.KernelIdeal.sig Kind.scVector Space.hbm Cert.KernelIdeal.S642x64x512 EltTy.f32)
local notation "xS" => (Memref.whole Cert.KernelIdeal.main_v0_scs : Memref Cert.KernelIdeal.sig Kind.scScalar Space.hbm Cert.KernelIdeal.S162x64x512 EltTy.f32)
local notation "yS" => (Memref.whole Cert.KernelIdeal.main_v1_scs : Memref Cert.KernelIdeal.sig Kind.scScalar Space.hbm Cert.KernelIdeal.S642x64x512 EltTy.f32)

variable [FloatOps F]

/-- A thread that owes and records its waits is ready to run, and is so after waits on copies alone. -/
theorem run_start (thr : Thread nD τ) {O : CellTallies nD τ sig (HIx 1)} (hO : ∀ g, O g none = 0) (W : Waits sig (HIx 1)) :
    iprop(levAts (K (F := F)).L (K (F := F)).lev ∗ owes thr O W) ⊢ (Run thr O W : sProp 𝕄) := by
  unfold Run
  iintro ⟨#Hlv, HO⟩
  ihave Hm := (show levAts (K (F := F)).L (K (F := F)).lev ⊢ Transfers.MayWaits thr (none : HIx 1) O from
    (K (F := F)).mayWaits_none (thr := thr) hO) $$ Hlv
  isplitl [Hm]; · iexact Hm
  iexists W; isplitr
  · ipureintro; exact fun p hp => Or.inl hp
  · iexact HO

omit [FloatOps F] in
theorem run_end (thr : Thread nD τ) (O : CellTallies nD τ sig (HIx 1)) (W : Waits sig (HIx 1)) :
    (Run thr O W : sProp 𝕄) ⊢ iprop(∃ W', ⌜∀ p ∈ W', p ∈ W ∨ p.2 = none ∨ p.2 = some (0 : Fin 1)⌝ ∗ owes thr O W') := by
  unfold Run
  iintro ⟨-, %W', %h, HO⟩
  iexists W'; isplitr
  · ipureintro; exact fun p hp => (h p hp).imp id Or.inl
  · iexact HO

/-! ## A tile -/

/-- A tile's body: handed its jobs, its own buffers and semaphores, it hands them back, the jobs done. -/
theorem tile_task (d : Dev nD) (i : grid0.Coords) (f : Buf (Elt F) (xLoc d)) (g : Buf (Elt F) (yLoc d)) (O : CellTallies nD τ sig (HIx 1))
    (W : Waits sig (HIx 1)) (hO : ∀ c, O c none = 0) :
    iprop(levAts (K (F := F)).L (K (F := F)).lev ∗ emp ∗ tileShare d f g (i 0).val (i 1).val ∗ scopedBufs (tT d i) ∗ scopedSems0 (tT d i) ∗ owes (tT d i) O W)
      ⊢ wp frame (wpE (defs₀ (F := F)) 𝒱₀ (tT d i) none) Set.univ
          (cc0__tec_body (F := F) i xV (Memref.isWhole_whole _) yV (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8 (Memref.whole cc0_scratch9) (Memref.isWhole_whole _)
            (Memref.whole cc0_scratch10) (Memref.isWhole_whole _) (Memref.whole cc0_scratch11) (Memref.isWhole_whole _) (Memref.whole cc0_scratch12) (Memref.isWhole_whole _)
            cc0_scratch13 cc0_scratch14 cc0_scratch15 cc0_scratch16 cc0_scratch17 cc0_scratch18 cc0_scratch19 cc0_scratch20)
          fun _ => iprop(tileShare d f (spread d f) (i 0).val (i 1).val ∗ scopedBufs (tT d i) ∗ scopedSems0 (tT d i)
            ∗ ∃ W', ⌜∀ p ∈ W', p ∈ W ∨ p.2 = none ∨ p.2 = some (0 : Fin 1)⌝ ∗ owes (tT d i) O W') := by
  have hb : (scopedBufs (tT d i) : sProp 𝕄) = ownBufs (tT d i) := (K (F := F)).scopedBufs_V facts d ((i 0).castLE hcore0) ((i 1).castLE hsub0)
  have hs : (scopedSems0 (tT d i) : sProp 𝕄) = ownSems0 (tT d i) := SparseCore.Cfg.scopedSems0_V d ((i 0).castLE hcore0) ((i 1).castLE hsub0)
  rw [tile_eq, hb, hs, ← tJobs_eq d i f g, ← tJobs_eq d i f (spread d f), ← bind_pure (tileProg _ _ _ _ _ _ _ _ _ _ _ _ _ _ _)]
  iintro ⟨Hlv, -, HJ, HB, HS, HO⟩
  ihave HR := (run_start (F := F) (tT d i) hO W) $$ [Hlv HO]
  · isplitl [Hlv]; · iexact Hlv
    iexact HO
  ihave H := (Entails.of_eq (tOwn (F := F) d i)) $$ [HB HS]
  · isplitl [HB]; · iexact HB
    iexact HS
  unfold tFree
  icases H with ⟨HF, HQ⟩
  iapply (wp_tileProg (F := F) (d := d) (i := i) (X := xV) (O := yV) (f := f) (fo := g) (G := spread d f) (r := pure) (Ow := O) (W := W)
    (tAgree d i f)) $$ [HF HJ HR]
  · isplitl [HF]; · iexact HF
    isplitl [HJ]; · iexact HJ
    iexact HR
  iintro ⟨HF, HJ, HR⟩
  rw [wp_pure]; imodintro
  isplitl [HJ]; · iexact HJ
  ihave H := (Entails.of_eq (tOwn (F := F) d i).symm) $$ [HF HQ]
  · unfold tFree
    isplitl [HF]; · iexact HF
    iexact HQ
  icases H with ⟨HB, HS⟩
  isplitl [HB]; · iexact HB
  isplitl [HS]; · iexact HS
  iapply (run_end (F := F)); iexact HR

/-! ## A sequencer -/

/-- A sequencer's body: handed its jobs, its own buffers and semaphores, it hands them back, the jobs done. -/
theorem seq_task (d : Dev nD) (i : grid1.Coords) (f : Buf (Elt F) (xLoc d)) (g : Buf (Elt F) (yLoc d)) (O : CellTallies nD τ sig (HIx 1))
    (W : Waits sig (HIx 1)) (hO : ∀ c, O c none = 0) :
    iprop(levAts (K (F := F)).L (K (F := F)).lev ∗ (seqShare d f g (i 0).val ∗ ownBufs (sT d i) ∗ ownSems0 (sT d i)) ∗ owes (sT d i) O W)
      ⊢ wp frame (wpE (defs₀ (F := F)) 𝒱₀ (sT d i) none) Set.univ
          (cc1__scs_body (F := F) i xS (Memref.isWhole_whole _) yS (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8 (Memref.whole cc0_scratch9) (Memref.isWhole_whole _)
            (Memref.whole cc0_scratch10) (Memref.isWhole_whole _) (Memref.whole cc0_scratch11) (Memref.isWhole_whole _) (Memref.whole cc0_scratch12) (Memref.isWhole_whole _)
            cc0_scratch13 cc0_scratch14 cc0_scratch15 cc0_scratch16 cc0_scratch17 cc0_scratch18 cc0_scratch19 cc0_scratch20)
          fun _ => iprop((seqShare d f (spread d f) (i 0).val ∗ ownBufs (sT d i)) ∗ ownSems0 (sT d i)
            ∗ ∃ W', ⌜∀ p ∈ W', p ∈ W ∨ p.2 = none ∨ p.2 = some (0 : Fin 1)⌝ ∗ owes (sT d i) O W') := by
  rw [seq_eq, ← sJobs_eq d i f g, ← sJobs_eq d i f (spread d f), ← bind_pure (seqProg _ _ _ _ _ _ _ _ _ _ _ _ _ _ _ _ _ _ _)]
  iintro ⟨Hlv, ⟨HJ, HB, HS⟩, HO⟩
  ihave HR := (run_start (F := F) (sT d i) hO W) $$ [Hlv HO]
  · isplitl [Hlv]; · iexact Hlv
    iexact HO
  ihave H := (Entails.of_eq (sOwn (F := F) d i)) $$ [HB HS]
  · isplitl [HB]; · iexact HB
    iexact HS
  unfold sFree
  icases H with ⟨HF, HQ⟩
  iapply (wp_seqProg (F := F) (d := d) (i := i) (X := xS) (O := yS) (f := f) (fo := g) (G := spread d f) (r := pure) (Ow := O) (W := W)
    (sAgree d i f) (sAgreeLast d i f)) $$ [HF HJ HR]
  · isplitl [HF]; · iexact HF
    isplitl [HJ]; · iexact HJ
    iexact HR
  iintro ⟨HF, HJ, HR⟩
  rw [wp_pure]; imodintro
  ihave H := (Entails.of_eq (sOwn (F := F) d i).symm) $$ [HF HQ]
  · unfold sFree
    isplitl [HF]; · iexact HF
    iexact HQ
  icases H with ⟨HB, HS⟩
  isplitl [HJ HB]
  · isplitl [HJ]; · iexact HJ
    iexact HB
  isplitl [HS]; · iexact HS
  iapply (run_end (F := F)); iexact HR

end Cert.Proof.Copy

end
-- ==== Proof.Copy.Launch.lean ====
module

public import proofs.«01_k».proof.Proof.Copy.Tasks

@[expose] public section

/-! # The launch

The host transposes its argument, hands each SparseCore the rows of its jobs, takes them back, and transposes
what it took back. Each SparseCore's rows are dealt to its sixteen tiles and its sequencer. Nothing but rows,
and each processor's own buffers and semaphores, changes hands. -/

noncomputable section

namespace Cert.Proof.Copy

open Cert.KernelIdeal Cert.KernelIdeal.Gen

open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-- The handshakes' part of the certificate's state. -/
abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev uLoc (d : Dev nD) : Loc nD τ sig := (SparseCore.T d).loc main_arg1
abbrev rLoc (d : Dev nD) : Loc nD τ sig := (SparseCore.T d).loc main_v2

/-- The host's argument, node axis first: what the SparseCores read. -/
def turned (d : Dev nD) : Buf (Elt F) (xLoc d) :=
  transpose S162x64x512 [2, 0, 1] (m (aLoc d)) transposes_S64x512x162_S162x64x512_2_0_1

/-- The result: the rows spread, node axis last again. -/
def result (d : Dev nD) : Buf (Elt F) (rLoc d) :=
  transpose S64x512x642 [1, 2, 0] (spread d (turned m d)) transposes_S642x64x512_S64x512x642_1_2_0

variable [FloatOps F]

/-! ## What changes hands -/

instance piece_storable (d : Dev nD) (f : Buf (Elt F) (xLoc d)) (g : Buf (Elt F) (yLoc d)) (p : ℕ) : BI.Storable (upEmb : UEmb _ 𝕄) (piece d f g p) := by
  unfold piece xRow yRow; infer_instance
instance lastPiece_storable (d : Dev nD) (f : Buf (Elt F) (xLoc d)) (g : Buf (Elt F) (yLoc d)) : BI.Storable (upEmb : UEmb _ 𝕄) (lastPiece d f g) := by
  unfold lastPiece xRow yRow; infer_instance
instance tileShare_storable (d : Dev nD) (f : Buf (Elt F) (xLoc d)) (g : Buf (Elt F) (yLoc d)) (c s : ℕ) : BI.Storable (upEmb : UEmb _ 𝕄) (tileShare d f g c s) := by
  unfold tileShare; infer_instance
instance seqShare_storable (d : Dev nD) (f : Buf (Elt F) (xLoc d)) (g : Buf (Elt F) (yLoc d)) (c : ℕ) : BI.Storable (upEmb : UEmb _ 𝕄) (seqShare d f g c) := by
  unfold seqShare; split <;> infer_instance
instance coreShare_storable (d : Dev nD) (f : Buf (Elt F) (xLoc d)) (g : Buf (Elt F) (yLoc d)) (c : ℕ) : BI.Storable (upEmb : UEmb _ 𝕄) (coreShare d f g c) := by
  unfold coreShare; infer_instance

/-- Each SparseCore is handed its share, each tile its own, the result's rows as they were; each hands it back, the rows spread. -/
def P : (K (F := F)).Pay (nD := nD) (Val := Elt F) (Name := ℕ) (U := UU) where
  st := fun _ d c => coreShare d (turned m d) (m (yLoc d)) c.val
  dn := fun _ d c => coreShare d (turned m d) (spread d (turned m d)) c.val
  go := fun _ d c i => tileShare d (turned m d) (m (yLoc d)) c.val i.val
  td := fun _ d c i => tileShare d (turned m d) (spread d (turned m d)) c.val i.val
  x := fun _ _ => iprop(emp)

instance P_storable : (P (F := F) m).IsStorable where
  st _ d c := (inferInstance : BI.Storable (upEmb : UEmb _ 𝕄) (coreShare d (turned m d) (m (yLoc d)) c.val))
  dn _ d c := (inferInstance : BI.Storable (upEmb : UEmb _ 𝕄) (coreShare d (turned m d) (spread d (turned m d)) c.val))
  go _ d c i := (inferInstance : BI.Storable (upEmb : UEmb _ 𝕄) (tileShare d (turned m d) (m (yLoc d)) c.val i.val))
  td _ d c i := (inferInstance : BI.Storable (upEmb : UEmb _ 𝕄) (tileShare d (turned m d) (spread d (turned m d)) c.val i.val))

/-- A sequencer's kernel owes nothing; -/
def Os (q : Fin 1) (d : Dev nD) (_ : Fin ((K (F := F)).nCore q)) : CellTallies nD τ sig (HIx 1) := 0
/-- it is handed its jobs and all its own buffers and semaphores, -/
def Xs (q : Fin 1) (d : Dev nD) (c : Fin ((K (F := F)).nCore q)) : sProp 𝕄 :=
  iprop(seqShare d (turned m d) (m (yLoc d)) c.val ∗ ownBufs (S d ((K (F := F)).core q c)) ∗ ownSems0 (S d ((K (F := F)).core q c)))
/-- and hands back its jobs done, and its buffers. -/
def Ys (q : Fin 1) (d : Dev nD) (c : Fin ((K (F := F)).nCore q)) : sProp 𝕄 :=
  iprop(seqShare d (turned m d) (spread d (turned m d)) c.val ∗ ownBufs (S d ((K (F := F)).core q c)))

omit [FloatOps F] in
theorem hOs (q : Fin 1) (d : Dev nD) (c : Fin ((K (F := F)).nCore q)) (g : GSem nD τ sig) (ι : HIx 1) (h : 0 < Os (F := F) q d c g ι) :
    8 * q.val + 3 ≤ (K (F := F)).lev g ι := absurd h (Nat.lt_irrefl 0)

/-! ## The two bodies' obligations -/

def coordsV (c : Fin (grid0.bound 0)) (s : Fin (grid0.bound 1)) : grid0.Coords :=
  fun | 0 => c | 1 => s | ⟨_ + 2, h⟩ => absurd h (Nat.not_lt.2 (Nat.le_add_left _ _))

def coordsS (c : Fin (grid1.bound 0)) : grid1.Coords :=
  fun | 0 => c | ⟨_ + 1, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__tec_body (coordsV c s) (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8 (Memref.whole cc0_scratch9) (Memref.isWhole_whole _)
          (Memref.whole cc0_scratch10) (Memref.isWhole_whole _) (Memref.whole cc0_scratch11) (Memref.isWhole_whole _) (Memref.whole cc0_scratch12) (Memref.isWhole_whole _)
          cc0_scratch13 cc0_scratch14 cc0_scratch15 cc0_scratch16 cc0_scratch17 cc0_scratch18 cc0_scratch19 cc0_scratch20) ⟨⟩ c s := rfl

theorem defs₀_scalar (c : Fin τ.nSC) :
    defs₀ (F := F) (.scScalar c) 1 ()
      = SparseCore.onCore hcore1 (fun c => cc1__scs_body (coordsS c) (Memref.whole main_v0_scs) (Memref.isWhole_whole _) (Memref.whole main_v1_scs) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8 (Memref.whole cc0_scratch9) (Memref.isWhole_whole _)
          (Memref.whole cc0_scratch10) (Memref.isWhole_whole _) (Memref.whole cc0_scratch11) (Memref.isWhole_whole _) (Memref.whole cc0_scratch12) (Memref.isWhole_whole _)
          cc0_scratch13 cc0_scratch14 cc0_scratch15 cc0_scratch16 cc0_scratch17 cc0_scratch18 cc0_scratch19 cc0_scratch20) ⟨⟩ c := rfl

set_option maxRecDepth 16384 in
theorem tileObl : (K (F := F)).TileObl₃ (D (F := F)) 𝒱 (P m) v₀ 0 := by
  intro d c i O W hO _ _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task d (coordsV ⟨_, hci.1⟩ ⟨_, hci.2⟩) (turned m d) (m (yLoc d)) O W hO

set_option maxRecDepth 16384 in
theorem seqObl : (K (F := F)).SeqObl₃ (D (F := F)) 𝒱 (Os (F := F)) (Xs (F := F) m) (Ys (F := F) m) v₀ 0 (Pipeline.kernel 1) ⟨⟩ := by
  intro d c O W hO _ _
  have hc : ((K (F := F)).core 0 c).val < grid1.bound 0 := c.isLt
  rw [show Os (F := F) 0 d c = 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  rw [defs₀_scalar]; simp only [SparseCore.onCore, hc, ↓reduceDIte]
  exact seq_task d (coordsS ⟨_, hc⟩) (turned m d) (m (yLoc d)) O W hO

/-! ## A SparseCore's share, dealt and gathered -/

theorem vecSplit : (K (F := F)).VecSplit₃ (P m) (Os (F := F)) (Xs (F := F) m) (Ys (F := F) m) 0 := by
  intro d c
  show iprop(emp ∗ coreShare d (turned m d) (m (yLoc d)) c.val ∗ ownBufs (S d ((K (F := F)).core 0 c)) ∗ cred (Os (F := F) 0 d c)
        ∗ ownSems0 (S d ((K (F := F)).core 0 c)) ∗ bigSep Finset.univ fun i : Fin ((K (F := F)).nSub 0) => scopedSems0 (V d ((K (F := F)).core 0 c) ((K (F := F)).sub 0 i)))
      ⊢ |={Set.univ}=> iprop((bigSep Finset.univ fun i : Fin ((K (F := F)).nSub 0) => scopedSems0 (V d ((K (F := F)).core 0 c) ((K (F := F)).sub 0 i)))
      ∗ (bigSep Finset.univ fun s : Fin 16 => tileShare d (turned m d) (m (yLoc d)) c.val s.val) ∗ Xs (F := F) m 0 d c
      ∗ (iprop((bigSep Finset.univ fun s : Fin 16 => tileShare d (turned m d) (spread d (turned m d)) c.val s.val) ∗ Ys (F := F) m 0 d c)
          -∗ iprop(coreShare d (turned m d) (spread d (turned m d)) c.val ∗ ownBufs (S d ((K (F := F)).core 0 c)))))
  unfold Xs Ys coreShare
  iintro ⟨-, ⟨HT, HJ⟩, HB, -, HS, Hgs⟩
  imodintro
  isplitl [Hgs]; · iexact Hgs
  isplitl [HT]; · iexact HT
  isplitl [HJ HB HS]
  · isplitl [HJ]; · iexact HJ
    isplitl [HB]; · iexact HB
    iexact HS
  iintro ⟨HT, HJ, HB⟩
  isplitr [HB]
  · isplitl [HT]; · iexact HT
    iexact HJ
  iexact HB

/-! ## The certificate's own state at the launch -/

def u₀ : UU := (initOf (K (F := F)).hsCells (K (F := F)).hsToks, 1)

omit [FloatOps F] in
theorem ownU_hs (a : UH) : (ownU ((a, 1) : UU) : sProp 𝕄) ⊢ BI.own (EH (F := F) a) := Entails.of_eq rfl

omit [FloatOps F] in
theorem bigSep_nothing {I : Type} (s : Finset I) : (bigSep s fun _ => iprop(emp)) = (iprop(emp) : sProp 𝕄) := bigSep_emp_const s

theorem hu₀ : iprop(ownU (u₀ (F := F)) ∗ (P (F := F) m).oxCred ∗ (K (F := F)).freeOn (· ∈ (∅ : Finset (GSem nD τ sig))) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  have hx : (bigSep Finset.univ fun thr : Thread nD τ => bigSep Finset.univ fun q : Fin 1 => (P m).x q thr) = (iprop(emp) : sProp 𝕄) :=
    (bigSep_congr fun thr _ => show (bigSep Finset.univ fun q : Fin 1 => (P m).x q thr) = (iprop(emp) : sProp 𝕄) from bigSep_nothing _).trans (bigSep_nothing _)
  rw [hx, bigSep_nothing]
  unfold u₀
  iintro ⟨Hu, -, -, -⟩
  ihave H := (ownU_hs (F := F) _) $$ Hu
  imodintro
  isplitl [H]; · iexact H
  isplitr <;> iempintro

/-! ## The host's line -/

/-- The argument, the map, the two arrays between and the result: all the host's arrays. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (uLoc d ↦{fullShare} W main_arg1) ∗ (xLoc d ↦{fullShare} W main_v0) ∗ (yLoc d ↦{fullShare} W main_v1)
          ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
/-- Two of the host's arrays, held. -/
theorem held_pair {x y : Ref sig .tc} (hne : x ≠ y) (d : Dev nD) (W : Valuation τ sig (Elt F)) :
    (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := by
  unfold held
  rw [SparseCore.bigSep_insert' (by rw [Finset.mem_singleton]; exact StableHlo.devRef_ne_of_ne hne), bigSep_singleton]

include m in
/-- A host operation of one operand: the operand stays, the result array takes the operation's value. -/
theorem wp_host {x y : Ref sig .tc} (op : x.ty.Contents (Elt F) → y.ty.Contents (Elt F)) (hx) (hy) (hne : x ≠ y) (d : Dev nD)
    (f : Buf (Elt F) ((SparseCore.T d).loc x)) (g : Buf (Elt F) ((SparseCore.T d).loc y)) {Q : PUnit → sProp (MT nD τ sig (HIx 1) (Elt F) ℕ UU ℕ)} :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f) ∗ ((SparseCore.T d).loc y ↦{fullShare} op f)) -∗ Q ⟨⟩)
          -∗ wp frame (wpE ((K (F := F)).defs (D (F := F))) 𝒱 (SparseCore.T d) none) Set.univ (hlo rfl (StableHlo.unary x y op hx hy) (fun _ => .ret ⟨⟩)) Q) := by
  have hxy : (Proc.devRef .tc x : DevRef τ sig) ≠ Proc.devRef .tc y := StableHlo.devRef_ne_of_ne hne
  let W : Valuation τ sig (Elt F) := Function.update (Function.update (fun b => m (d, b)) (Proc.devRef .tc x) f) (Proc.devRef .tc y) g
  have hWx : W (Proc.devRef .tc x) = f := (Function.update_of_ne hxy _ _).trans (Function.update_self _ _ _)
  have hWy : W (Proc.devRef .tc y) = g := Function.update_self _ _ _
  have h0 : (held (SparseCore.T d) {Proc.devRef .tc x, Proc.devRef .tc y} W : sProp 𝕄)
      = iprop(((SparseCore.T d).loc x ↦{fullShare} f) ∗ (SparseCore.T d).loc y ↦{fullShare} g) := by rw [held_pair hne, hWx, hWy]
  have h1 : (held (SparseCore.T d) {Proc.devRef .tc x, Proc.devRef .tc y} ((StableHlo.unary x y op hx hy : HloOp τ sig (Elt F)).result W) : sProp 𝕄)
      = iprop(((SparseCore.T d).loc x ↦{fullShare} f) ∗ (SparseCore.T d).loc y ↦{fullShare} op f) := by
    rw [held_pair hne, StableHlo.unary_result_ne _ _ op hx hy W hne, StableHlo.unary_result x y op hx hy W, hWx]
  rw [← h0, ← h1]
  iintro H Hk
  iapply (wp_hlo_within 𝒱 (SparseCore.T d) none Set.univ (op := StableHlo.unary x y op hx hy) (S := {Proc.devRef .tc x, Proc.devRef .tc y}) (Finset.Subset.refl _) (V := W)) $$ H
  iintro H
  rw [wp_ret]; imodintro
  iapply Hk; iexact H

theorem st_eq (d : Dev nD) : (bigSep Finset.univ fun c : Fin ((K (F := F)).nCore 0) => (P m).st 0 d c)
    = bigSep Finset.univ fun c : Fin 2 => coreShare d (turned m d) (m (yLoc d)) c.val := rfl
theorem dn_eq (d : Dev nD) : (bigSep Finset.univ fun c : Fin ((K (F := F)).nCore 0) => (P m).dn 0 d c)
    = bigSep Finset.univ fun c : Fin 2 => coreShare d (turned m d) (spread d (turned m d)) c.val := rfl

/-- What the host's line leaves: both arguments as they were, and the result. -/
abbrev FIN (d : Dev nD) : sProp 𝕄 :=
  iprop((aLoc d ↦{fullShare} m (aLoc d)) ∗ (uLoc d ↦{fullShare} m (uLoc d)) ∗ rLoc d ↦{fullShare} result m d)

/-- The host's line: the first transpose, the call from both arrays and back, the second transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  rw [show (sc (F := F)).run (nD := nD) (Val := Elt F) d 0 = (K (F := F)).run d 0 from rfl]
  iintro ⟨#Hctx, Hst, ⟨Hb, ⟨Ha, Hu, Hx, Hy, Hr⟩, Hts, -⟩, -⟩
  iapply (wp_host (F := F) m (x := main_arg0) (y := main_v0) _ _ _ (by decide) d (m (aLoc d)) (m (xLoc d))) $$ [Hb Ha Hx]
  · isplitl [Hb]; · iexact Hb
    isplitl [Ha]; · iexact Ha
    iexact Hx
  iintro ⟨Hb, Ha, Hx⟩
  ihave H := (Entails.of_eq (arrays_dealt (F := F) d (turned m d) (m (yLoc d)))) $$ [Hx Hy]
  · isplitl [Hx]; · iexact Hx
    iexact Hy
  icases H with ⟨HC, Hn⟩
  iapply ((K (F := F)).wp_run (D (F := F)) 𝒱 (EH := EH) (P := P m) κ d 0) $$ [Hst HC Hn Hb Ha Hu Hr Hts]
  isplitr; · iexact Hctx
  isplitl [Hst]; · iexact Hst
  isplitl [HC]
  · rw [st_eq]; iexact HC
  iintro ⟨Hst, HC⟩
  ihave HC := (Entails.of_eq (dn_eq m d)) $$ HC
  ihave H := (Entails.of_eq (arrays_dealt (F := F) d (turned m d) (spread d (turned m d))).symm) $$ [HC Hn]
  · isplitl [HC]; · iexact HC
    iexact Hn
  icases H with ⟨-, Hy⟩
  iapply (wp_host (F := F) m (x := main_v1) (y := main_v2) _ _ _ (by decide) d (spread d (turned m d)) (m (rLoc d))) $$ [Hb Hy Hr]
  · isplitl [Hb]; · iexact Hb
    isplitl [Hy]; · iexact Hy
    iexact Hr
  iintro ⟨Hb, -, Hr⟩
  imodintro
  isplitl [Hst]; · iexact Hst
  isplitr [Hb Hts]
  · isplitl [Ha]; · iexact Ha
    isplitl [Hu]; · iexact Hu
    iexact Hr
  isplitl [Hb] <;> iassumption

/-! ## The run -/

/-- What is read of a device's memory at the end. -/
def fq (d : Dev nD) (s' : Phys nD τ sig (Elt F)) : Prop :=
  s'.mem.mem (aLoc d) = m (aLoc d) ∧ s'.mem.mem (uLoc d) = m (uLoc d) ∧ s'.mem.mem (rLoc d) = result m d

omit [FloatOps F] in
/-- An array held whole is in the memory as it is held. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HS⟩
  ihave H := (persistent_entails_right (SI_pointsTo_agree (st := s') (ℓ := ℓ) (I := Finset.univ) (q := fullShare) (f := f))) $$ [HS H]
  · isplitl [HS] <;> iassumption
  icases H with ⟨%h, HS, -⟩
  isplitr
  · ipureintro; exact funext fun i => h i (Finset.mem_univ i)
  · iexact HS

omit [FloatOps F] in
theorem hfin (d : Dev nD) (s' : Phys nD τ sig (Elt F)) : iprop(FIN m d ∗ SI s') ⊢ (⌜fq m d s'⌝ : sProp 𝕄) := by
  iintro ⟨⟨Ha, Hu, Hr⟩, HS⟩
  ihave H := (read_whole (F := F) (aLoc d) (m (aLoc d)) s') $$ [Ha HS]
  · isplitl [Ha] <;> iassumption
  icases H with ⟨%ha, HS⟩
  ihave H := (read_whole (F := F) (uLoc d) (m (uLoc d)) s') $$ [Hu HS]
  · isplitl [Hu] <;> iassumption
  icases H with ⟨%hu, HS⟩
  ihave H := (read_whole (F := F) (rLoc d) (result m d) s') $$ [Hr HS]
  · isplitl [Hr] <;> iassumption
  icases H with ⟨%hr, -⟩
  ipureintro; exact ⟨ha, hu, hr⟩

/-- Every device's arguments as they were and its result in place, every semaphore at zero. -/
def QC : PUnit × MemSt nD τ sig (Elt F) → Prop := fun r =>
  (∀ c : Dev nD, r.2.mem (aLoc c) = m (aLoc c) ∧ r.2.mem (uLoc c) = m (uLoc c) ∧ r.2.mem (rLoc c) = result m c) ∧ r.2.sem = fun _ => 0

/-- From any memory, with every semaphore at zero, every run of the program ends, with both arguments as they
were, the result at its value and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_scoped₂_quiescent (K := K (F := F)) (D := D (F := F)) (𝒱 := 𝒱) (σ := σ (F := F)) (EH := EH) (P := P m)
    (Os := Os (F := F)) (Xs := Xs (F := F) m) (Ys := Ys (F := F) m) facts v₀ vD
    (fun q hq => match q with | 0 => nomatch hq)
    (fun q _ => match q with | 0 => tileObl m)
    hOs
    (fun q _ => match q with | 0 => vecSplit m)
    (fun q _ => match q with | 0 => SparseCore.Cfg.SeqPartObl₃.of_some (v₁ := v₀) rfl v₀_lt_vD (seqObl m))
    m ρ main (fun _ => iprop(emp)) (FIN m) (u₀ (F := F)) (hu₀ m) (hmain m ρ) (fq m) (hfin m) (QC m) (fun _ h hz => ⟨h, hz⟩)

end Cert.Proof.Copy

end
-- ==== Proof.Copy.Value.lean ====
module

public import proofs.«01_k».proof.Proof.Copy.Launch
public import proofs.«01_k».proof.Proof.Gen.Pre_parent_map
public import proofs.«01_k».proof.Proof.Gen.ReferenceIdeal.Run

@[expose] public section

/-! # The value

Under the precondition the map holds at each `i` the number `i / 4`, so the reference's lookup takes, at
`(b, s, f)`, the argument's entry `(b, s, f / 4)`. That is also what the program's result holds there. -/

noncomputable section

namespace Cert.Proof.Copy

open Idealize.ShloMosaic

/-! ## A conjunction over an axis -/

/-- A conjunction of bits is one only if it starts at one and every bit is one. -/
theorem foldl_and_one {α : Type} (g : α → BitVec 1) (l : List α) (b : BitVec 1) :
    l.foldl (fun r n => IntOp.andi r (g n)) b = 1#1 ↔ b = 1#1 ∧ ∀ n ∈ l, g n = 1#1 := by
  induction l generalizing b with
  | nil => simp
  | cons n l ih =>
    have h : ∀ x y : BitVec 1, IntOp.andi x y = 1#1 ↔ x = 1#1 ∧ y = 1#1 := by decide
    rw [List.foldl_cons, ih, h, List.forall_mem_cons, and_assoc]

/-- A reduction by conjunction, started at one, is one exactly where every bit it reduces is one. -/
theorem reduce_and_one {s t u : Shape} {dims : List (Fin s.rank)} (x : IVec s 1) (h : s.ReducesTo dims t) (hu : 0 < u.numel) (j : t.Idx) :
    Host.reduce IntOp.andi x (constantI u 1 1#1) h hu j = 1#1 ↔ ∀ i : s.Idx, h.drop i = j → x i = 1#1 := by
  unfold Host.reduce
  rw [foldl_and_one]
  constructor
  · rintro ⟨-, H⟩ i hi
    have := H (s.rowMajor i) (List.mem_filter.2 ⟨List.mem_finRange _, by simpa using hi⟩)
    rwa [Equiv.symm_apply_apply] at this
  · intro H
    exact ⟨rfl, fun n hn => H _ (by simpa using (List.mem_filter.1 hn).2)⟩

/-! ## The precondition -/

/-- The sign of a word. -/
def sign (x : BitVec 32) : BitVec 32 := if x = 0 then 0 else if x.msb then -1 else 1

/-- The quotient of one word by four, rounded down, as the precondition computes it. -/
def quarter (x : BitVec 32) : BitVec 32 :=
  Scalar.select (IntOp.andi (IntOp.cmpi .ne (sign x) (sign 4#32))
      (IntOp.cmpi .ne (IntOp.remsi .host x 4#32) 0#32))
    (IntOp.subi (IntOp.divsi .host x 4#32) 1#32) (IntOp.divsi .host x 4#32)

theorem quarter_ofNat : ∀ n : Fin 642, quarter (BitVec.ofNat 32 n.val) = BitVec.ofNat 32 (n.val / 4) := by
  decide +kernel

/-- The number of the input row that output row `f` copies, as the map holds it. -/
abbrev parent (i : Cert.Pre_parent_map.S642.Idx) : BitVec 32 := BitVec.ofNat 32 ((i 0).val / 4)

theorem floor_divide_apply {F : FTy → Type} [FloatOps F] (i : Cert.Pre_parent_map.S642.Idx) :
    Cert.Pre_parent_map.fn_floor_divide (F := F) (iotaInDim Cert.Pre_parent_map.S642 32 0) (constantI Cert.Pre_parent_map.S_ 32 4#32) i = parent i :=
  have h : Cert.Pre_parent_map.fn_floor_divide (F := F) (iotaInDim Cert.Pre_parent_map.S642 32 0) (constantI Cert.Pre_parent_map.S_ 32 4#32) i
      = quarter (BitVec.ofNat 32 (i 0).val) := rfl
  h.trans (quarter_ofNat (i 0))

/-- What the precondition says of the map. -/
theorem map_of_pre {F : FTy → Type} [FloatOps F] (a : FVec F Cert.Pre_parent_map.S64x512x162 .f32) (u : IVec Cert.Pre_parent_map.S642 32)
    (h : Cert.Pre_parent_map.fn (F := F) a u = fun _ => 1#1) : u = parent := by
  funext i
  have h0 := congrFun h (fun a => a.elim0)
  have h1 := (reduce_and_one _ _ _ _).1 h0 i (funext fun a => a.elim0)
  have h2 : IntOp.cmpi .eq (u i) (parent i) = 1#1 := by rw [← floor_divide_apply (F := F) i]; exact h1
  have h3 : ∀ b : Bool, BitVec.ofBool b = 1#1 → b = true := by decide
  simpa using h3 _ h2

/-! ## The reference -/

section Reference

open Cert.ReferenceIdeal Cert.ReferenceIdeal.Facts₀

/-- The map with its negative entries wrapped, as a column. -/
abbrev column (u : IVec S642 32) : IVec S642x1 32 :=
  broadcastInDim S642x1 ![0] bcast_S642_S642x1_0 (select (cmpi .slt u (broadcastInDim S642 ![] bcast_S_S642 (constantI S_ 32 0#32)))
    (addi u (broadcastInDim S642 ![] bcast_S_S642 (constantI S_ 32 162#32))) u)

/-- Which entries of the map name a row of the argument. -/
abbrev inside (u : IVec S642 32) : IVec S642 1 :=
  Host.reduce IntOp.andi (andi (cmpi .sge (column u) (broadcastInDim S642x1 ![] bcast_S_S642x1 (constantI S_ 32 0#32)))
    (cmpi .sle (column u) (broadcastInDim S642x1 ![0, 1] bcast_S1x1_S642x1_0_1 (broadcastInDim S1x1 ![1] bcast_S1_S1x1_1 (constantI S1 32 161#32)))))
    (constantI S_ 1 1#1) reducesTo_S642x1_S642_d1 h_S_

/-- The reference's result, of its two arguments. -/
abbrev taken {F : FTy → Type} [FloatOps F] (a : FVec F S64x512x162 .f32) (u : IVec S642 32) : FVec F S64x512x642 .f32 :=
  select (broadcastInDim S64x512x642 ![2] bcast_S642_S64x512x642_2 (inside u))
    (Host.gather gather_S64x512x162_S642x1_S64x512x642_01_2_n_n_2_1_645121 a (column u))
    (broadcastInDim S64x512x642 ![] bcast_S_S64x512x642 (constant S_ .f32 0x7FC00000#32))

/-- The wrapped entry of a word. -/
def wrap (x : BitVec 32) : BitVec 32 := Scalar.select (IntOp.cmpi .slt x 0#32) (IntOp.addi x 162#32) x

theorem wrap_ofNat : ∀ n : Fin 642, wrap (BitVec.ofNat 32 (n.val / 4)) = BitVec.ofNat 32 (n.val / 4) := by
  decide +kernel

theorem column_apply (i : S642x1.Idx) : column parent i = BitVec.ofNat 32 ((i 0).val / 4) := by
  have h : column parent i = wrap (BitVec.ofNat 32 ((i 0).val / 4)) := rfl
  exact h.trans (wrap_ofNat (i 0))

theorem in_range : ∀ n : Fin 642, IntOp.andi (IntOp.cmpi .sge (BitVec.ofNat 32 (n.val / 4)) 0#32)
    (IntOp.cmpi .sle (BitVec.ofNat 32 (n.val / 4)) 161#32) = 1#1 := by
  decide +kernel

theorem inside_apply (i : S642.Idx) : inside parent i = 1#1 := by
  refine (reduce_and_one _ _ _ _).2 fun k _ => ?_
  show IntOp.andi (IntOp.cmpi .sge (column parent k) 0#32) (IntOp.cmpi .sle (column parent k) 161#32) = 1#1
  rw [column_apply k]
  exact in_range (k 0)

/-- The argument's index that result index `j` copies. -/
def origin (j : S64x512x642.Idx) : S64x512x162.Idx := fun
  | 0 => j 0
  | 1 => j 1
  | 2 => ⟨(j 2).val / 4, by have := (j 2).isLt; show _ < 162; change _ < 642 at this; omega⟩

theorem start_ofNat : ∀ n : Fin 642, min (BitVec.ofNat 32 (n.val / 4)).toInt.toNat 161 = n.val / 4 := by
  decide +kernel

/-- The lookup's two whole axes pass through; its third is read off the column. -/
theorem gather_apply {α : Type} (x : S64x512x162.Idx → α) (j : S64x512x642.Idx) :
    Host.gather gather_S64x512x162_S642x1_S64x512x642_01_2_n_n_2_1_645121 x (column parent) j = x (origin j) := by
  unfold Host.gather
  refine congrArg x (funext fun a => Fin.ext ?_)
  unfold GatherDims.operandIdx
  match a with
  | ⟨0, _⟩ => exact (Nat.zero_add _)
  | ⟨1, _⟩ => exact (Nat.zero_add _)
  | ⟨2, _⟩ =>
    refine (congrArg (fun v => min v.toInt.toNat 161) (column_apply _)).trans ?_
    exact start_ofNat (j 2)

theorem taken_apply {F : FTy → Type} [FloatOps F] (a : FVec F S64x512x162 .f32) (j : S64x512x642.Idx) :
    taken a parent j = a (origin j) := by
  show Scalar.select (inside parent _) (Host.gather _ a (column parent) j) _ = _
  rw [inside_apply, gather_apply]
  rfl

end Reference

/-! ## The program -/

open Cert.KernelIdeal in
theorem result_apply {F : FTy → Type} [FloatOps F] (m : (ℓ : Loc nD τ sig) → Buf (Elt F) ℓ) (d : Dev nD) (j : S64x512x642.Idx) :
    result m d j = m (aLoc d) (origin j) := by
  refine congrArg (m (aLoc d)) (funext fun a => Fin.ext ?_)
  match a with
  | ⟨0, _⟩ => rfl
  | ⟨1, _⟩ => rfl
  | ⟨2, _⟩ => rfl

open Cert.KernelIdeal in
/-- The two results agree, of a map that the precondition holds of. -/
theorem taken_eq {F : FTy → Type} [FloatOps F] (m : (ℓ : Loc nD τ sig) → Buf (Elt F) ℓ) (d : Dev nD)
    (a : FVec F Cert.ReferenceIdeal.S64x512x162 .f32) (u : IVec Cert.ReferenceIdeal.S642 32) (ha : a = m (aLoc d)) (hu : u = parent) :
    taken a u = result m d := by
  subst ha hu
  exact funext fun j => (taken_apply _ j).trans (result_apply m d j).symm

end Cert.Proof.Copy

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_parent_map
public import proofs.«01_k».proof.Proof.Copy.Value
public import Idealize.ShloMosaic.Lib.Quiescent
public import Idealize.ShloMosaic.Adequacy
public import Idealize.ShloMosaic.Init

@[expose] public section

noncomputable section

namespace Cert.Proof

open Idealize.ShloMosaic Idealize.SL.Sem Cert.Proof.Copy

/-- Every run of the idealized program ends with its arguments as they were and every semaphore at zero. -/
theorem frame_ideal : Cert.quiescent_KernelIdeal := fun m g _ =>
  (θ_run Cert.KernelIdeal.defs _ _).mono (fun _ h => ⟨fun c => ⟨(h.1 c).1, (h.1 c).2.1⟩, h.2⟩) (run_main (F := Ideal) m g)

theorem frame_ideal_pre : Cert.quiescent_KernelIdeal_pre_parent_map := fun m g _ =>
  (θ_run Cert.KernelIdeal.defs _ _).mono (fun _ h => ⟨fun c => ⟨(h.1 c).1, (h.1 c).2.1⟩, h.2⟩) (run_main (F := Ideal) m g)

/-- The program itself is the same text, read at the machine's numbers. -/
theorem frame_kernel : Cert.quiescent_Kernel := fun m g _ =>
  (θ_run Cert.KernelIdeal.defs _ _).mono (fun _ h => ⟨fun c => ⟨(h.1 c).1, (h.1 c).2.1⟩, h.2⟩) (run_main (F := Bits) m g)

/-- The reference declares no semaphore at all. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

theorem frame_reference_pre : Cert.quiescent_ReferenceIdeal_pre_parent_map := fun m g _ =>
  (θ_run Cert.ReferenceIdeal.defs _ _).mono (fun r h => ⟨fun c => (h c).2, sem_eq_zero_of_no_sems rfl r.2⟩)
    (Cert.ReferenceIdeal.Value.run (F := Ideal) m g)

/-- The program's result and the reference's, of the same arguments, are equal at every index. -/
theorem value : Cert.algebraic_KernelIdeal_ReferenceIdeal_pre_parent_map := by
  intro m g m' g' hp hm
  refine ⟨fun c => result m c, ?_, ?_⟩
  · exact (θ_run Cert.KernelIdeal.defs _ _).mono (fun _ h c => ⟨(h.1 c).2.2, (h.1 c).1, (h.1 c).2.1⟩) (run_main (F := Ideal) m g)
  · refine (θ_run Cert.ReferenceIdeal.defs _ _).mono (fun _ h c => ⟨(h c).1.trans ?_, (h c).2⟩) (Cert.ReferenceIdeal.Value.run (F := Ideal) m' g')
    exact taken_eq (F := Ideal) m c (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (hm c).1
      ((hm c).2.trans (map_of_pre (F := Ideal) _ _ (hp c)))

theorem claim : Cert.Claim := ⟨Cert.Kernel.Gen.facts, Cert.KernelIdeal.Gen.facts, Cert.ReferenceIdeal.Gen.facts, Cert.Pre_parent_map.Gen.facts,
  frame_kernel, frame_ideal, frame_ideal_pre, frame_reference, frame_reference_pre, trivial, value⟩

end Cert.Proof

end
